-- ==== Defs.lean ====
def Pre_Kernel (m : (ℓ : Loc Cert.Kernel.nD Cert.Kernel.τ Cert.Kernel.sig) → Buf (Elt Bits) ℓ) : Prop :=
  True

def Pre_Kernel_untied [hPre_untied : Cert.Pre_untied.Facts] (m : (ℓ : Loc Cert.Kernel.nD Cert.Kernel.τ Cert.Kernel.sig) → Buf (Elt Bits) ℓ) : Prop :=
  ∀ c : Dev Cert.Kernel.nD,
    (Cert.Pre_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_untied [hKernel : Cert.Kernel.Facts] [hPre_untied : Cert.Pre_untied.Facts] : Prop :=
  ∀ (m : (ℓ : Loc Cert.Kernel.nD Cert.Kernel.τ Cert.Kernel.sig) → Buf (Elt Bits) ℓ) (g : Dev Cert.Kernel.nD → PrngReg), Pre_Kernel_untied m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x41A00000#32 ((268435456 / 13421773 : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_Kernel_pre_untied (hKernel := hKernel) (hPre_untied := hPre_untied)
    ∧ quiescent_KernelIdeal (hKernelIdeal := hKernelIdeal) (hPre_untied := hPre_untied)
    ∧ quiescent_ReferenceIdeal (hReferenceIdeal := hReferenceIdeal) (hPre_untied := hPre_untied)
    ∧ preserves_Kernel_KernelIdeal
    ∧ algebraic_KernelIdeal_ReferenceIdeal (hKernelIdeal := hKernelIdeal) (hReferenceIdeal := hReferenceIdeal) (hPre_untied := hPre_untied)
-- ==== Pre_untied.lean ====
abbrev S128x2048 : Shape := ⟨2, ![128, 2048]⟩
abbrev S128 : Shape := ⟨1, ![128]⟩
abbrev S_ : Shape := ⟨0, ![]⟩
abbrev S16522x2048 : Shape := ⟨2, ![16522, 2048]⟩
abbrev S2048x16522 : Shape := ⟨2, ![2048, 16522]⟩
abbrev S128x16522 : Shape := ⟨2, ![128, 16522]⟩
abbrev S128x7 : Shape := ⟨2, ![128, 7]⟩
abbrev S128x6 : Shape := ⟨2, ![128, 6]⟩

class Facts : Prop where
  transposes_S16522x2048_S2048x16522_1_0 : S16522x2048.Transposes [1, 0] S2048x16522
  bcast_S_S128x16522 : S_.BroadcastsInDim S128x16522 (![] : Fin 0 → Fin S128x16522.rank)
  sliceFits_S128x16522_S128x7 : S128x16522.Slices (fun _ => 0) S128x7
  slices_S128x7_S128x6_0_1 : S128x7.Slices ![0, 1] S128x6
  slices_S128x7_S128x6_0_0 : S128x7.Slices ![0, 0] S128x6
  reducesTo_S128x6_S_d0_1 : S128x6.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S16522x2048 : S_.BroadcastsInDim S16522x2048 (![] : Fin 0 → Fin S16522x2048.rank)
  reducesTo_S16522x2048_S_d0_1 : S16522x2048.ReducesTo [0, 1] S_
  bcast_S_S128 : S_.BroadcastsInDim S128 (![] : Fin 0 → Fin S128.rank)
  reducesTo_S128_S_d0 : S128.ReducesTo [0] S_
  dot_S128x2048_S2048x16522_S128x16522_1_0_0_1_n_n_wf : DotDims.WF S128x2048 S2048x16522 S128x16522 [1] [0] [0] [1] [] []

variable [Facts]

def dot_S128x2048_S2048x16522_S128x16522_1_0_0_1_n_n : DotDims S128x2048 S2048x16522 S128x16522 where
  lhsContracting := [1]
  rhsContracting := [0]
  lhsNonContracting := [0]
  rhsNonContracting := [1]
  lhsBatch := []
  rhsBatch := []
  wf := dot_S128x2048_S2048x16522_S128x16522_1_0_0_1_n_n_wf
def fn_part1 {F : FTy → Type} [FloatOps F] (main_arg1 : IVec S128 32) (main_v12 : IVec S_ 1) (main_v15 : IVec S16522x2048 1) (main_c_3 : IVec S_ 1) : IVec S_ 1 :=
  let main_v16 : IVec S_ 1 := (fun x v => Host.reduce IntOp.andi x v reducesTo_S16522x2048_S_d0_1 h_S_) main_v15 main_c_3
  let main_v17 : IVec S_ 1 := andi main_v12 main_v16
  let main_c_4 : IVec S_ 32 := constantI S_ 32 0#32
  let main_v18 : IVec S128 32 := broadcastInDim S128 ![] bcast_S_S128 main_c_4
  let main_v19 : IVec S128 1 := cmpi .sge main_arg1 main_v18
  let main_c_5 : IVec S_ 1 := constantI S_ 1 1#1
  let main_v20 : IVec S_ 1 := (fun x v => Host.reduce IntOp.andi x v reducesTo_S128_S_d0 h_S_) main_v19 main_c_5
  let main_v21 : IVec S_ 1 := andi main_v17 main_v20
  let main_c_6 : IVec S_ 32 := constantI S_ 32 16522#32
  let main_v22 : IVec S128 32 := broadcastInDim S128 ![] bcast_S_S128 main_c_6
  let main_v23 : IVec S128 1 := cmpi .slt main_arg1 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v21 main_v24
  main_v25

def fn {F : FTy → Type} [FloatOps F] (main_arg0 : FVec F S128x2048 .f32) (main_arg1 : IVec S128 32) (main_arg2 : IVec S_ 32) (main_arg3 : FVec F S16522x2048 .f32) : IVec S_ 1 :=
  let main_v0 : FVec F S2048x16522 .f32 := (transpose S2048x16522 [1, 0] · transposes_S16522x2048_S2048x16522_1_0) main_arg3
  let main_v1 : FVec F S128x16522 .f32 := (fun l r => Host.dotGeneral dot_S128x2048_S2048x16522_S128x16522_1_0_0_1_n_n none l r) main_arg0 main_v0
  let main_cst : FVec F S_ .f32 := constant S_ .f32 0x3D4CCCCD#32
  let main_v2 : FVec F S128x16522 .f32 := broadcastInDim S128x16522 ![] bcast_S_S128x16522 main_cst
  let main_v3 : FVec F S128x16522 .f32 := Host.divf main_v1 main_v2
  let main_values : FVec F S128x7 .f32 := (fun x => (Host.topK S128x7 1 (FloatOps.cmpfTotal .gt) x sliceFits_S128x16522_S128x7).1) main_v3
  let main_indices : IVec S128x7 32 := (fun x => (Host.topK S128x7 1 (FloatOps.cmpfTotal .gt) x sliceFits_S128x16522_S128x7).2) main_v3
  let main_v4 : FVec F S128x6 .f32 := (extractStridedSlice S128x6 ![0, 1] · slices_S128x7_S128x6_0_1) main_values
  let main_v5 : FVec F S128x6 .f32 := (extractStridedSlice S128x6 ![0, 0] · slices_S128x7_S128x6_0_0) main_values
  let main_v6 : IVec S128x6 1 := cmpf .olt main_v4 main_v5
  let main_c : IVec S_ 1 := constantI S_ 1 1#1
  let main_v7 : IVec S_ 1 := (fun x v => Host.reduce IntOp.andi x v reducesTo_S128x6_S_d0_1 h_S_) main_v6 main_c
  let main_v8 : FVec F S128x2048 .f32 := Host.absf main_arg0
  let main_cst_0 : FVec F S_ .f32 := constant S_ .f32 0x7F800000#32
  let main_v9 : FVec F S128x2048 .f32 := broadcastInDim S128x2048 ![] bcast_S_S128x2048 main_cst_0
  let main_v10 : IVec S128x2048 1 := cmpf .olt main_v8 main_v9
  let main_c_1 : IVec S_ 1 := constantI S_ 1 1#1
  let main_v11 : IVec S_ 1 := (fun x v => Host.reduce IntOp.andi x v reducesTo_S128x2048_S_d0_1 h_S_) main_v10 main_c_1
  let main_v12 : IVec S_ 1 := andi main_v7 main_v11
  let main_v13 : FVec F S16522x2048 .f32 := Host.absf main_arg3
  let main_cst_2 : FVec F S_ .f32 := constant S_ .f32 0x7F800000#32
  let main_v14 : FVec F S16522x2048 .f32 := broadcastInDim S16522x2048 ![] bcast_S_S16522x2048 main_cst_2
  let main_v15 : IVec S16522x2048 1 := cmpf .olt main_v13 main_v14
  let main_c_3 : IVec S_ 1 := constantI S_ 1 1#1
  fn_part1 (F := F) main_arg1 main_v12 main_v15 main_c_3
-- ==== Kernel.lean ====
abbrev S128x2048 : Shape := ⟨2, ![128, 2048]⟩
abbrev S128 : Shape := ⟨1, ![128]⟩
abbrev S_ : Shape := ⟨0, ![]⟩
abbrev S16522x2048 : Shape := ⟨2, ![16522, 2048]⟩
abbrev S128x1 : Shape := ⟨2, ![128, 1]⟩
abbrev S1x1 : Shape := ⟨2, ![1, 1]⟩
abbrev S256x2048 : Shape := ⟨2, ![256, 2048]⟩
abbrev S3x2048x2048 : Shape := ⟨3, ![3, 2048, 2048]⟩
abbrev S128x8 : Shape := ⟨2, ![128, 8]⟩
abbrev S3x4 : Shape := ⟨2, ![3, 4]⟩
abbrev S1x512x2048 : Shape := ⟨3, ![1, 512, 2048]⟩
abbrev S512x2048 : Shape := ⟨2, ![512, 2048]⟩
abbrev S128x256 : Shape := ⟨2, ![128, 256]⟩
abbrev S128x14 : Shape := ⟨2, ![128, 14]⟩
abbrev S128x2 : Shape := ⟨2, ![128, 2]⟩
abbrev S1x2048x2048 : Shape := ⟨3, ![1, 2048, 2048]⟩
abbrev S2048x2048 : Shape := ⟨2, ![2048, 2048]⟩
abbrev S128x6 : Shape := ⟨2, ![128, 6]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 7
  | .vmem => 9
  | .smem => 1
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S_, .i32⟩
  | .hbm, ⟨3, _⟩ => ⟨S16522x2048, .f32⟩
  | .hbm, ⟨4, _⟩ => ⟨S128x1, .i32⟩
  | .hbm, ⟨5, _⟩ => ⟨S1x1, .f32⟩
  | .hbm, ⟨6, _⟩ => ⟨S_, .f32⟩
  | .local _ .vmem, ⟨0, _⟩ => ⟨S128x2048, .f32⟩
  | .local _ .vmem, ⟨1, _⟩ => ⟨S128x1, .i32⟩
  | .local _ .vmem, ⟨2, _⟩ => ⟨S256x2048, .f32⟩
  | .local _ .vmem, ⟨3, _⟩ => ⟨S128x2048, .f32⟩
  | .local _ .vmem, ⟨4, _⟩ => ⟨S3x2048x2048, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x8, .f32⟩
  | .local _ .smem, ⟨0, _⟩ => ⟨S1x1, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_71 : BitVec 32) (c0_i32_73 : BitVec 32) : Fin 2 → Nat :=
  let c2048_i32_72 : BitVec 32 := 2048#32
  let v151 : BitVec 32 := Scalar.muli c0_i32_71 c2048_i32_72
  let v152 : BitVec 32 := Scalar.addi v151 c0_i32_73
  let c0_i32_88 : BitVec 32 := 0#32
  ![v152.toNat, 0]
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c0_i32_82 : BitVec 32 := 0#32
  ![v153.toNat, 0]
def k0_off3 (i : grid0.Coords) : Fin 3 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c0_i32_83 : BitVec 32 := 0#32
  let c0_i32_84 : BitVec 32 := 0#32
  ![v153.toNat, 0, 0]
def k0_off4 (i : grid0.Coords) (c0_i32_75 : BitVec 32) : Fin 2 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c2048_i32_74 : BitVec 32 := 2048#32
  let v154 : BitVec 32 := Scalar.muli v152 c2048_i32_74
  let v155 : BitVec 32 := Scalar.addi v154 c0_i32_75
  let c0_i32_85 : BitVec 32 := 0#32
  ![v155.toNat, 0]
def k0_off5 (i : grid0.Coords) : Fin 2 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c1_i32_86 : BitVec 32 := 1#32
  ![v153.toNat, 1]
def k0_off6 (i : grid0.Coords) : Fin 3 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c512_i32_87 : BitVec 32 := 512#32
  let c0_i32_88 : BitVec 32 := 0#32
  ![v153.toNat, 512, 0]
def k0_off7 (i : grid0.Coords) : Fin 2 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c2_i32_90 : BitVec 32 := 2#32
  ![v153.toNat, 2]
def k0_off8 (i : grid0.Coords) : Fin 3 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c1024_i32_91 : BitVec 32 := 1024#32
  let c0_i32_92 : BitVec 32 := 0#32
  ![v153.toNat, 1024, 0]
def k0_off9 (i : grid0.Coords) : Fin 2 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c3_i32_94 : BitVec 32 := 3#32
  ![v153.toNat, 3]
def k0_off10 (i : grid0.Coords) : Fin 3 → Nat :=
  let arg0 : BitVec 32 := BitVec.ofNat 32 (i 0).val
  let c3_i32_71 : BitVec 32 := 3#32
  let v151 : BitVec 32 := Scalar.addi arg0 c3_i32_71
  let c1_i32_72 : BitVec 32 := 1#32
  let v152 : BitVec 32 := Scalar.subi v151 c1_i32_72
  let c3_i32_73 : BitVec 32 := 3#32
  let v153 : BitVec 32 := Scalar.remsi v152 c3_i32_73
  let c1536_i32_95 : BitVec 32 := 1536#32
  let c0_i32_96 : BitVec 32 := 0#32
  ![v153.toNat, 1536, 0]
def k0_off11 (i : grid0.Coords) : Fin 2 → Nat :=
  let arg0 : BitVec 32 := BitVec.ofNat 32 (i 0).val
  let c3_i32_2 : BitVec 32 := 3#32
  let v8 : BitVec 32 := Scalar.remsi arg0 c3_i32_2
  let c0_i32_7 : BitVec 32 := 0#32
  ![v8.toNat, 0]
def k0_off12 (i : grid0.Coords) : Fin 3 → Nat :=
  let arg0 : BitVec 32 := BitVec.ofNat 32 (i 0).val
  let c3_i32_2 : BitVec 32 := 3#32
  let v8 : BitVec 32 := Scalar.remsi arg0 c3_i32_2
  let c0_i32_8 : BitVec 32 := 0#32
  let c0_i32_9 : BitVec 32 := 0#32
  ![v8.toNat, 0, 0]
def k0_off13 (i : grid0.Coords) (c0_i32_3 : BitVec 32) : Fin 2 → Nat :=
  let arg0 : BitVec 32 := BitVec.ofNat 32 (i 0).val
  let c2048_i32 : BitVec 32 := 2048#32
  let v9 : BitVec 32 := Scalar.muli arg0 c2048_i32
  let v10 : BitVec 32 := Scalar.addi v9 c0_i32_3
  let c0_i32_10 : BitVec 32 := 0#32
  ![v10.toNat, 0]
def k0_off14 (i : grid0.Coords) : Fin 2 → Nat :=
  let arg0 : BitVec 32 := BitVec.ofNat 32 (i 0).val
  let c3_i32_2 : BitVec 32 := 3#32
  let v8 : BitVec 32 := Scalar.remsi arg0 c3_i32_2
  let c1_i32_11 : BitVec 32 := 1#32
  ![v8.toNat, 1]
def k0_off15 (i : grid0.Coords) : Fin 3 → Nat :=
  let arg0 : BitVec 32 := BitVec.ofNat 32 (i 0).val
  let c3_i32_2 : BitVec 32 := 3#32
  let v8 : BitVec 32 := Scalar.remsi arg0 c3_i32_2
  let c512_i32_12 : BitVec 32 := 512#32
  let c0_i32_13 : BitVec 32 := 0#32
  ![v8.toNat, 512, 0]
def k0_off16 (i : grid0.Coords) : Fin 2 → Nat :=
  let arg0 : BitVec 32 := BitVec.ofNat 32 (i 0).val
  let c3_i32_2 : BitVec 32 := 3#32
  let v8 : BitVec 32 := Scalar.remsi arg0 c3_i32_2
  let c2_i32 : BitVec 32 := 2#32
  ![v8.toNat, 2]
def k0_off17 (i : grid0.Coords) : Fin 3 → Nat :=
  let arg0 : BitVec 32 := BitVec.ofNat 32 (i 0).val
  let c3_i32_2 : BitVec 32 := 3#32
  let v8 : BitVec 32 := Scalar.remsi arg0 c3_i32_2
  let c1024_i32_15 : BitVec 32 := 1024#32
  let c0_i32_16 : BitVec 32 := 0#32
  ![v8.toNat, 1024, 0]
def k0_off18 (i : grid0.Coords) : Fin 2 → Nat :=
  let arg0 : BitVec 32 := BitVec.ofNat 32 (i 0).val
  let c3_i32_2 : BitVec 32 := 3#32
  let v8 : BitVec 32 := Scalar.remsi arg0 c3_i32_2
  let c3_i32_18 : BitVec 32 := 3#32
  ![v8.toNat, 3]
def k0_off19 (i : grid0.Coords) : Fin 3 → Nat :=
  let arg0 : BitVec 32 := BitVec.ofNat 32 (i 0).val
  let c3_i32_2 : BitVec 32 := 3#32
  let v8 : BitVec 32 := Scalar.remsi arg0 c3_i32_2
  let c1536_i32_19 : BitVec 32 := 1536#32
  let c0_i32_20 : BitVec 32 := 0#32
  ![v8.toNat, 1536, 0]
def k0_off20 (i : grid0.Coords) : Fin 3 → Nat :=
  let arg0 : BitVec 32 := BitVec.ofNat 32 (i 0).val
  let c3_i32_2 : BitVec 32 := 3#32
  let v8 : BitVec 32 := Scalar.remsi arg0 c3_i32_2
  let v38 : Index := Scalar.indexCast v8
  let c0_23 : Index := 0#32
  let c0_24 : Index := 0#32
  ![v38.toNat, 0, 0]
def k0_cond3 (i : grid0.Coords) : BitVec 1 :=
  let arg0 : BitVec 32 := BitVec.ofNat 32 (i 0).val
  let c7_i32 : BitVec 32 := 7#32
  let v148 : BitVec 1 := Scalar.cmpi .eq arg0 c7_i32
  let v149 : BitVec 32 := Scalar.extui v148
  let c0_i32_70 : BitVec 32 := 0#32
  let v150 : BitVec 1 := Scalar.cmpi .ne v149 c0_i32_70
  v150

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | "scale" => some ((268435456 / 13421773 : ℝ) : EReal)
  | _ => none
-- ==== ReferenceIdeal.lean ====
abbrev S128x2048 : Shape := ⟨2, ![128, 2048]⟩
abbrev S128 : Shape := ⟨1, ![128]⟩
abbrev S_ : Shape := ⟨0, ![]⟩
abbrev S16522x2048 : Shape := ⟨2, ![16522, 2048]⟩
abbrev S2048x16522 : Shape := ⟨2, ![2048, 16522]⟩
abbrev S128x16522 : Shape := ⟨2, ![128, 16522]⟩
abbrev S128x6 : Shape := ⟨2, ![128, 6]⟩
abbrev S128x1 : Shape := ⟨2, ![128, 1]⟩
abbrev S128x6x1 : Shape := ⟨3, ![128, 6, 1]⟩
abbrev S128x6x2 : Shape := ⟨3, ![128, 6, 2]⟩
abbrev S128x2 : Shape := ⟨2, ![128, 2]⟩

abbrev nBuf : Space → Nat
  | .hbm => 80
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S_, .i32⟩
  | .hbm, ⟨3, _⟩ => ⟨S16522x2048, .f32⟩
  | .hbm, ⟨4, _⟩ => ⟨S2048x16522, .f32⟩
  | .hbm, ⟨5, _⟩ => ⟨S128x16522, .f32⟩
  | .hbm, ⟨6, _⟩ => ⟨S_, .f32⟩
  | .hbm, ⟨7, _⟩ => ⟨S128x16522, .f32⟩
  | .hbm, ⟨8, _⟩ => ⟨S128x16522, .f32⟩
  | .hbm, ⟨9, _⟩ => ⟨S128x6, .f32⟩
  | .hbm, ⟨10, _⟩ => ⟨S128x6, .i32⟩
  | .hbm, ⟨11, _⟩ => ⟨S_, .f32⟩
  | .hbm, ⟨12, _⟩ => ⟨S128x16522, .f32⟩
  | .hbm, ⟨13, _⟩ => ⟨S128, .i32⟩
  | .hbm, ⟨14, _⟩ => ⟨S128x1, .i32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S128x1, .i32⟩
  | .hbm, ⟨22, _⟩ => ⟨S_, .i32⟩
  | .hbm, ⟨23, _⟩ => ⟨S128x6, .i32⟩
  | .hbm, ⟨24, _⟩ => ⟨S128x6, .i1⟩
  | .hbm, ⟨25, _⟩ => ⟨S_, .i32⟩
  | .hbm, ⟨26, _⟩ => ⟨S128x6, .i32⟩
  | .hbm, ⟨27, _⟩ => ⟨S128x6, .i32⟩
  | .hbm, ⟨28, _⟩ => ⟨S128x6, .i32⟩
  | .hbm, ⟨29, _⟩ => ⟨S128x6, .i32⟩
  | .hbm, ⟨30, _⟩ => ⟨S128x6x1, .i32⟩
  | .hbm, ⟨31, _⟩ => ⟨S128x6x1, .i32⟩
  | .hbm, ⟨32, _⟩ => ⟨S128x6x2, .i32⟩
  | .hbm, ⟨33, _⟩ => ⟨S_, .f32⟩
  | .hbm, ⟨34, _⟩ => ⟨S128x6, .f32⟩
  | .hbm, ⟨35, _⟩ => ⟨S128x16522, .f32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S128x1, .i32⟩
  | .hbm, ⟨52, _⟩ => ⟨S128x1, .i32⟩
  | .hbm, ⟨53, _⟩ => ⟨S128x2, .i32⟩
  | .hbm, ⟨54, _⟩ => ⟨S_, .f32⟩
  | .hbm, ⟨55, _⟩ => ⟨S128, .f32⟩
  | .hbm, ⟨56, _⟩ => ⟨S128x16522, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128x1, .f32⟩
  | .hbm, ⟨63, _⟩ => ⟨S128x16522, .f32⟩
  | .hbm, ⟨64, _⟩ => ⟨S128x16522, .f32⟩
  | .hbm, ⟨65, _⟩ => ⟨S128x16522, .f32⟩
  | .hbm, ⟨66, _⟩ => ⟨S_, .f32⟩
  | .hbm, ⟨67, _⟩ => ⟨S128, .f32⟩
  | .hbm, ⟨68, _⟩ => ⟨S128x1, .f32⟩
  | .hbm, ⟨69, _⟩ => ⟨S128x1, .f32⟩
  | .hbm, ⟨70, _⟩ => ⟨S128x16522, .f32⟩
  | .hbm, ⟨71, _⟩ => ⟨S128x16522, .f32⟩
  | .hbm, ⟨72, _⟩ => ⟨S128x16522, .f32⟩
  | .hbm, ⟨73, _⟩ => ⟨S128x16522, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_v0 : Ref sig .tc := ⟨.hbm, 58, rfl⟩
abbrev main_call0_cst_0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_cst_1 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_10 : Ref sig .tc := ⟨.hbm, 74, rfl⟩
abbrev main_v42 : Ref sig .tc := ⟨.hbm, 75, rfl⟩
abbrev main_cst_11 : Ref sig .tc := ⟨.hbm, 76, rfl⟩
abbrev main_v43 : Ref sig .tc := ⟨.hbm, 77, rfl⟩
abbrev main_cst_12 : Ref sig .tc := ⟨.hbm, 78, rfl⟩
abbrev main_v44 : Ref sig .tc := ⟨.hbm, 79, rfl⟩

abbrev nD : Nat := 1
abbrev τ : Topo := Topo.v7x

variable {F : FTy → Type} [FloatOps F]
-- ==== Proof.PreFacts.lean ====
/-
  The side conditions of the precondition's operations.
-/
module

public import proofs.«01_k».proof.Pre_untied
public import Idealize.ShloMosaic.Lib.Affine
public import Idealize.ShloMosaic.Lib.Decide

@[expose] public section

set_option maxRecDepth 16384

namespace Cert.Pre_untied.Hand

open Idealize.ShloMosaic Cert.Pre_untied

/-- Each shape relation holds. -/
instance facts : Cert.Pre_untied.Facts where
  transposes_S16522x2048_S2048x16522_1_0 := by decide
  bcast_S_S128x16522 := by decide
  sliceFits_S128x16522_S128x7 := by decide
  slices_S128x7_S128x6_0_1 := by decide
  slices_S128x7_S128x6_0_0 := by decide
  reducesTo_S128x6_S_d0_1 := by decide
  h_S_ := by decide
  bcast_S_S128x2048 := by decide
  reducesTo_S128x2048_S_d0_1 := by decide
  bcast_S_S16522x2048 := by decide
  reducesTo_S16522x2048_S_d0_1 := by decide
  bcast_S_S128 := by decide
  reducesTo_S128_S_d0 := by decide
  dot_S128x2048_S2048x16522_S128x16522_1_0_0_1_n_n_wf := by decide

end Cert.Pre_untied.Hand

end
-- ==== Proof.Ideal.Ring.lean ====
/-
  The three-slot ring of the class-embedding stream: its slots, the four row parts a slot is filled by, the source
  blocks, the semaphore cells, the contents a landed block leaves, and the canonical spellings of the body's operands.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCoords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's branch conditions, over the eight points -/

/-- The first point's condition. -/
abbrev cond0_0 (i : grid0.Coords) : Prop := k0_cond1 i = 1#1
theorem hcond0_0 : ∀ t : Fin cfg0.N, cond0_0 (grid0.coords t) ↔ t.val = 0 :=
  (by decide +kernel : ∀ t : Fin grid0.N, cond0_0 (grid0.coords t) ↔ t.val = 0)
/-- A block is still to be started. -/
abbrev cond0_1 (i : grid0.Coords) : Prop := k0_cond2 i = 1#1
theorem hcond0_1 : ∀ t : Fin cfg0.N, cond0_1 (grid0.coords t) ↔ t.val < 6 :=
  (by decide +kernel : ∀ t : Fin grid0.N, cond0_1 (grid0.coords t) ↔ t.val < 6)
/-- The last point's condition. -/
abbrev cond0_2 (i : grid0.Coords) : Prop := k0_cond3 i = 1#1
theorem hcond0_2 : ∀ t : Fin cfg0.N, cond0_2 (grid0.coords t) ↔ t.val = 7 :=
  (by decide +kernel : ∀ t : Fin grid0.N, cond0_2 (grid0.coords t) ↔ t.val = 7)

/-! ## The memrefs the body runs on -/

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
abbrev scM0_0 : Memref sig .tc .vmem S128x2048 .f32 := Memref.whole cc0_scratch0
abbrev scM0_1 : Memref sig .tc .vmem S3x2048x2048 .f32 := Memref.whole cc0_scratch1
abbrev scM0_2 : Memref sig .tc .vmem S128x1 .f32 := Memref.whole cc0_scratch2
abbrev scM0_3 : Memref sig .tc .vmem S128x1 .f32 := Memref.whole cc0_scratch3
abbrev scM0_4 : Memref sig .tc .vmem S128x1 .f32 := Memref.whole cc0_scratch4
abbrev scM0_5 : Memref sig .tc .vmem S128x8 .f32 := Memref.whole cc0_scratch5
/-- The class embeddings, left in HBM. -/
abbrev hbM0_0 : Memref sig .tc .hbm S16522x2048 .f32 := Memref.whole main_arg3
/-- The contents of a memref's buffer. -/
abbrev HbBuf0 (c : Dev nD) {sp : Space} {S : Shape} {e : EltTy} (M : Memref sig .tc sp S e) : Type := Buf (Elt F) (M.view.loc (c : Thread nD τ))

instance : NeZero grid0.N := ⟨by rw [N_0]; decide⟩

/-! ## Slots, parts, sources, cells -/

theorem squeezes_slot : S1x2048x2048.Squeezes S2048x2048 := by decide

theorem inb_slot (s : Fin 3) : ∀ a, (![s.val, 0, 0] : Fin 3 → Nat) a + S1x2048x2048.size a ≤ S3x2048x2048.size a := by
  have := s.isLt; intro a; fin_cases a <;> simp <;> omega
theorem inb_part (s : Fin 3) (h : Fin 4) : ∀ a, (![s.val, 512 * h.val, 0] : Fin 3 → Nat) a + S1x512x2048.size a ≤ S3x2048x2048.size a := by
  have := s.isLt; have := h.isLt; intro a; fin_cases a <;> simp <;> omega
theorem inb_src (b : Fin 8) (h : Fin 4) : ∀ a, (![2048 * b.val + 512 * h.val, 0] : Fin 2 → Nat) a + S512x2048.size a ≤ S16522x2048.size a := by
  have := b.isLt; have := h.isLt; intro a; fin_cases a <;> simp <;> omega
theorem inb_cell (s : Fin 3) (h : Fin 4) : ∀ a, (![s.val, h.val] : Fin 2 → Nat) a + S1x1.size a ≤ S3x4.size a := by
  have := s.isLt; have := h.isLt; intro a; fin_cases a <;> simp <;> omega
/-- Slot `s` of the ring. -/
def rslot (s : Fin 3) : Memref sig .tc .vmem S2048x2048 .f32 :=
  (scM0_1.slice (Rect.unit (s := S3x2048x2048) ![s.val, 0, 0] S1x2048x2048.size (inb_slot s)) (fun _ => rfl)).squeeze S2048x2048 squeezes_slot
/-- The `h`-th 512 rows of slot `s`. -/
def rpart (s : Fin 3) (h : Fin 4) : Memref sig .tc .vmem S512x2048 .f32 :=
  (scM0_1.slice (Rect.unit (s := S3x2048x2048) ![s.val, 512 * h.val, 0] S1x512x2048.size (inb_part s h)) (fun _ => rfl)).squeeze S512x2048 squeezes_S1x512x2048_S512x2048
/-- The `h`-th 512 rows of block `b` of the class embeddings. -/
def srcB (b : Fin 8) (h : Fin 4) : Memref sig .tc .hbm S512x2048 .f32 :=
  hbM0_0.slice (Rect.unit (s := S16522x2048) ![2048 * b.val + 512 * h.val, 0] S512x2048.size (inb_src b h)) (fun _ => rfl)
/-- The cell of part `h` of slot `s`. -/
def cellA (s : Fin 3) (h : Fin 4) : DmaSems sig S_ := (cc0_scratch6.slice (Rect.unit (s := S3x4) ![s.val, h.val] S1x1.size (inb_cell s h))).squeeze S_ squeezes_S1x1_S_
abbrev cellR (s : Fin 3) (h : Fin 4) : SemLoc sig := SemLoc.dma (cellA s h).sem

abbrev slotSet (s : Fin 3) : Finset S3x2048x2048.Idx := (Rect.unit (s := S3x2048x2048) ![s.val, 0, 0] S1x2048x2048.size (inb_slot s)).set
abbrev partSet (s : Fin 3) (h : Fin 4) : Finset S3x2048x2048.Idx := (Rect.unit (s := S3x2048x2048) ![s.val, 512 * h.val, 0] S1x512x2048.size (inb_part s h)).set
abbrev srcSet (b : Fin 8) (h : Fin 4) : Finset S16522x2048.Idx := (Rect.unit (s := S16522x2048) ![2048 * b.val + 512 * h.val, 0] S512x2048.size (inb_src b h)).set

theorem slotSet_eq (s : Fin 3) : (rslot s).view.set = slotSet s := by
  simp only [rslot, Memref.view_squeeze, View.set_reshape]; exact View.set_slice_whole _ _
theorem partSet_eq (s : Fin 3) (h : Fin 4) : (rpart s h).view.set = partSet s h := by
  simp only [rpart, Memref.view_squeeze, View.set_reshape]; exact View.set_slice_whole _ _
theorem srcSet_eq (b : Fin 8) (h : Fin 4) : (srcB b h).view.set = srcSet b h := by
  simp only [srcB]; exact View.set_slice_whole _ _

theorem slots_disjoint (s s' : Fin 3) (h : s ≠ s') : Disjoint (slotSet s) (slotSet s') :=
  Ring.lead_disjoint (s := S3x2048x2048) (0 : Fin 3) 1 (fun s : Fin 3 => (![s.val, 0, 0] : Fin 3 → Nat)) S1x2048x2048.size inb_slot (fun s => by simp) rfl s s' h
theorem slots_cover : Finset.univ.biUnion slotSet = Finset.univ :=
  Ring.lead_cover (s := S3x2048x2048) (0 : Fin 3) 1 (fun s : Fin 3 => (![s.val, 0, 0] : Fin 3 → Nat)) S1x2048x2048.size inb_slot (fun s => by simp)
    (fun s a ha => by fin_cases a <;> first | exact absurd rfl ha | rfl) rfl (fun a ha => by fin_cases a <;> first | exact absurd rfl ha | rfl) rfl
theorem parts_disjoint (s : Fin 3) (h h' : Fin 4) (hh : h ≠ h') : Disjoint (partSet s h) (partSet s h') :=
  Ring.lead_disjoint (s := S3x2048x2048) (1 : Fin 3) 512 (fun h : Fin 4 => (![s.val, 512 * h.val, 0] : Fin 3 → Nat)) S1x512x2048.size (inb_part s) (fun h => by simp) rfl h h' hh
theorem srcs_disjoint (b : Fin 8) (h h' : Fin 4) (hh : h ≠ h') : Disjoint (srcSet b h) (srcSet b h') := by
  rw [Finset.disjoint_left]
  intro i hi hi'
  have h1 := (Rect.mem_set_unit.mp hi) 0
  have h2 := (Rect.mem_set_unit.mp hi') 0
  have hne : h.val ≠ h'.val := fun e => hh (Fin.ext e)
  simp at h1 h2
  omega
theorem mem_partSet {s : Fin 3} {h : Fin 4} {i : S3x2048x2048.Idx} :
    i ∈ partSet s h ↔ (i 0).val = s.val ∧ 512 * h.val ≤ (i 1).val ∧ (i 1).val < 512 * h.val + 512 := by
  rw [Rect.mem_set_unit]
  constructor
  · intro hi
    have h0 := hi 0; have h1 := hi 1
    simp at h0 h1
    omega
  · intro hi a
    have h2 : (i 2).val < 2048 := (i 2).isLt
    fin_cases a <;> simp <;> omega
theorem mem_slotSet {s : Fin 3} {i : S3x2048x2048.Idx} : i ∈ slotSet s ↔ (i 0).val = s.val := by
  rw [Rect.mem_set_unit]
  constructor
  · intro hi
    have h0 := hi 0
    simp at h0
    omega
  · intro hi a
    have h1 : (i 1).val < 2048 := (i 1).isLt
    have h2 : (i 2).val < 2048 := (i 2).isLt
    fin_cases a <;> simp <;> omega
theorem parts_cover (s : Fin 3) : Finset.univ.biUnion (partSet s) = slotSet s := by
  ext i
  simp only [Finset.mem_biUnion, Finset.mem_univ, true_and, mem_partSet, mem_slotSet]
  have h1 : (i 1).val < 2048 := (i 1).isLt
  constructor
  · rintro ⟨h, hh, -⟩; exact hh
  · intro h0
    exact ⟨⟨(i 1).val / 512, by omega⟩, h0, by simp only; omega, by simp only; omega⟩

omit [FloatOps F] [Named F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

section Ring
variable (c : Dev nD) (W : HbBuf0 (F := F) c hbM0_0)
/-- The share of the class embeddings each slot's transfers borrow: the right half in three (the left half is the tail window's). -/
abbrev qs (s : Fin 3) : PosShare TreeShare := if s.val = 0 then fullShare.right.left else if s.val = 1 then fullShare.right.right.left else fullShare.right.right.right
abbrev slotP (s : Fin 3) (f : HbBuf0 (F := F) c (rslot s)) : sProp 𝕄 := (rslot s).view.loc (c : Thread nD τ) ↦[(rslot s).view.set]{fullShare} f
abbrev partP (s : Fin 3) (h : Fin 4) (f : HbBuf0 (F := F) c (rpart s h)) : sProp 𝕄 := (rpart s h).view.loc (c : Thread nD τ) ↦[(rpart s h).view.set]{fullShare} f
abbrev cellP (s : Fin 3) (h : Fin 4) : sProp 𝕄 := semVal ((c : Thread nD τ), cellR s h) 0
abbrev srcP (s : Fin 3) (b : Fin 8) (h : Fin 4) : sProp 𝕄 := (srcB b h).view.loc (c : Thread nD τ) ↦[(srcB b h).view.set]{qs s} W
/-- The rest of a slot's copy of the embeddings while block `b` is lent from it. -/
def restP (s : Fin 3) (b : Fin 8) : sProp 𝕄 := ((c : Thread nD τ).loc main_arg3) ↦[Finset.univ \ Finset.univ.biUnion (srcSet b)]{qs s} W
abbrev wholeP (s : Fin 3) : sProp 𝕄 := ((c : Thread nD τ).loc main_arg3) ↦[Finset.univ]{qs s} W
/-- A part once its rows of block `b` have landed. -/
abbrev landed (s : Fin 3) (b : Fin 8) (h : Fin 4) (f : HbBuf0 (F := F) c (rpart s h)) : HbBuf0 (F := F) c (rpart s h) :=
  (rpart s h).view.writes (Elt F) f [⟨Rect.whole S512x2048, ReadAs.same.apply ((srcB b h).view.read (Elt F) W)⟩]
abbrev flightP (s : Fin 3) (b : Fin 8) (h : Fin 4) (f : HbBuf0 (F := F) c (rpart s h)) : sProp 𝕄 :=
  Transfers.Flight countersEmb (c : Thread nD τ) (cellR s h) default ((rpart s h).view.amount (cellR s h))
    iprop(partP c s h (landed c W s b h f) ∗ srcP c W s b h)
/-- The ring's families: a slot's four cells; a free slot with its copy of the embeddings; a slot's four flights. -/
abbrev cell4 (s : Fin 3) : sProp 𝕄 := iprop(cellP c s 0 ∗ cellP c s 1 ∗ cellP c s 2 ∗ cellP c s 3)
abbrev slotW (s : Fin 3) (f : HbBuf0 (F := F) c (rslot s)) : sProp 𝕄 := iprop(slotP c s f ∗ wholeP c W s)
abbrev flightW (s : Fin 3) (b : Fin 8) (f : HbBuf0 (F := F) c (rslot s)) : sProp 𝕄 :=
  iprop(((∃ f, flightP c W s b 0 f) ∗ (∃ f, flightP c W s b 1 f) ∗ (∃ f, flightP c W s b 2 f) ∗ (∃ f, flightP c W s b 3 f)) ∗ restP c W s b)
abbrev noHome (b : Fin 8) : sProp 𝕄 := iprop(emp)
/-- The ring before its step `k`. -/
def ringAt (k : ℕ) : sProp 𝕄 :=
  if k = 0 then Ring.At₀ (cell4 c) (slotW c W) noHome
  else Ring.At 2 (cell4 c) (slotW c W) noHome (flightW c W) k

/-- Where element `i` of the scratch stands in the embeddings when its slot holds block `b`. -/
def srcIx (b : Fin 8) (i : S3x2048x2048.Idx) : S16522x2048.Idx :=
  ValueIdx.ix2 (⟨2048 * b.val + (i 1).val, by have h := b.isLt; have h' : (i 1).val < 2048 := (i 1).isLt; omega⟩ : Fin 16522) (⟨(i 2).val, (i 2).isLt⟩ : Fin 2048)
/-- The embeddings' contents at an index. -/
def emAt (i : S16522x2048.Idx) : Elt F .f32 := W i
/-- Block `b` of the embeddings, laid over every slot of the scratch. -/
def blockBuf (b : Fin 8) : S3x2048x2048.Idx → Elt F .f32 := fun i => emAt c W (srcIx b i)
/-- The same as a slot's, and as a part's contents. -/
def slotBuf (s : Fin 3) (b : Fin 8) : HbBuf0 (F := F) c (rslot s) := blockBuf c W b
def partBuf (s : Fin 3) (h : Fin 4) (b : Fin 8) : HbBuf0 (F := F) c (rpart s h) := blockBuf c W b
/-- A slot's contents, as a part's. -/
def toPart (s : Fin 3) (h : Fin 4) (f : HbBuf0 (F := F) c (rslot s)) : HbBuf0 (F := F) c (rpart s h) := f

end Ring

section InOut
variable (c : Dev nD) (W : HbBuf0 (F := F) c hbM0_0)
theorem slotP_eq (s : Fin 3) (f) : slotP (F := F) c s f = (((c : Thread nD τ).loc cc0_scratch1) ↦[slotSet s]{fullShare} f : sProp 𝕄) := by
  unfold slotP; rw [slotSet_eq]; rfl
theorem partP_eq (s : Fin 3) (h : Fin 4) (f) : partP (F := F) c s h f = (((c : Thread nD τ).loc cc0_scratch1) ↦[partSet s h]{fullShare} f : sProp 𝕄) := by
  unfold partP; rw [partSet_eq]; rfl
theorem srcP_eq (s : Fin 3) (b : Fin 8) (h : Fin 4) : srcP (F := F) c W s b h = (((c : Thread nD τ).loc main_arg3) ↦[srcSet b h]{qs s} W : sProp 𝕄) := by
  unfold srcP; rw [srcSet_eq]; rfl
/-- A slot is its four parts. -/
theorem slot_parts (s : Fin 3) (f : HbBuf0 (F := F) c (rslot s)) :
    slotP (F := F) c s f = iprop(partP c s 0 (toPart c s 0 f) ∗ partP c s 1 (toPart c s 1 f) ∗ partP c s 2 (toPart c s 2 f) ∗ partP c s 3 (toPart c s 3 f)) := by
  refine (slotP_eq c s f).trans ((Ring.pointsTo_sub_blocks (ℓ := (c : Thread nD τ).loc cc0_scratch1) (I := partSet s) (parts_disjoint s) (slotSet s) (parts_cover s) f).trans ((bigSep_fin4 _).trans ?_))
  rw [partP_eq, partP_eq, partP_eq, partP_eq]
  rfl
/-- The four lent pieces of a block are their union. -/
theorem srcs_eq (s : Fin 3) (b : Fin 8) : iprop(srcP (F := F) c W s b 0 ∗ srcP c W s b 1 ∗ srcP c W s b 2 ∗ srcP c W s b 3) = (((c : Thread nD τ).loc main_arg3) ↦[Finset.univ.biUnion (srcSet b)]{qs s} W : sProp 𝕄) := by
  refine Eq.symm ((Ring.pointsTo_sub_blocks (ℓ := (c : Thread nD τ).loc main_arg3) (I := srcSet b) (srcs_disjoint b) (Finset.univ.biUnion (srcSet b)) rfl W).trans ((bigSep_fin4 _).trans ?_))
  rw [srcP_eq, srcP_eq, srcP_eq, srcP_eq]
/-- A slot's copy of the embeddings is the four lent pieces of a block and the rest. -/
theorem src_split (s : Fin 3) (b : Fin 8) : wholeP (F := F) c W s ⊣⊢ iprop((srcP c W s b 0 ∗ srcP c W s b 1 ∗ srcP c W s b 2 ∗ srcP c W s b 3) ∗ restP c W s b) := by
  rw [srcs_eq]; unfold restP
  exact pointsTo_split_subset (Finset.subset_univ _)
/-- The right half of the embeddings is the three slots' copies. -/
theorem whole_split : (((c : Thread nD τ).loc main_arg3) ↦[Finset.univ]{fullShare.right} W : sProp 𝕄) ⊣⊢ iprop(wholeP c W 0 ∗ wholeP c W 1 ∗ wholeP c W 2) := by
  refine ⟨?_, ?_⟩
  · iintro H
    ihave H' := (pointsTo_share (PosShare.mem_left_op_right fullShare.right)).1 $$ H
    icases H' with ⟨H0, H12⟩
    ihave H'' := (pointsTo_share (PosShare.mem_left_op_right fullShare.right.right)).1 $$ H12
    icases H'' with ⟨H1, H2⟩
    isplitl [H0]; · iexact H0
    isplitl [H1]; · iexact H1
    iexact H2
  · iintro ⟨H0, H1, H2⟩
    iapply (pointsTo_share (PosShare.mem_left_op_right fullShare.right)).2
    isplitl [H0]; · iexact H0
    iapply (pointsTo_share (PosShare.mem_left_op_right fullShare.right.right)).2
    isplitl [H1]; · iexact H1
    iexact H2
/-- Where a part's elements lie in the scratch. -/
def partIx (s : Fin 3) (h : Fin 4) (y : S512x2048.Idx) : S3x2048x2048.Idx := (rpart s h).view.emb y
theorem partIx_eq (s : Fin 3) (h : Fin 4) (y : S512x2048.Idx) :
    partIx s h y = (Rect.unit (s := S3x2048x2048) ![s.val, 512 * h.val, 0] S1x512x2048.size (inb_part s h)).emb (Fin.cons ⟨0, Nat.one_pos⟩ y) := by
  unfold partIx
  simp only [rpart, Memref.view_squeeze, View.emb_reshape]
  show (Rect.unit (s := S3x2048x2048) ![s.val, 512 * h.val, 0] S1x512x2048.size (inb_part s h)).emb (Shape.reshapeEquiv _ y) = _
  exact congrArg _ (Shape.reshapeEquiv_cons_one (n := 2) (d := ![512, 2048]) _ y)
theorem partIx_1 (s : Fin 3) (h : Fin 4) (y : S512x2048.Idx) : (partIx s h y 1).val = 512 * h.val + (y 0).val := by
  rw [partIx_eq]
  show 512 * h.val + 1 * (y 0).val = _
  omega
theorem partIx_2 (s : Fin 3) (h : Fin 4) (y : S512x2048.Idx) : (partIx s h y 2).val = (y 1).val := by
  rw [partIx_eq]
  show 0 + 1 * (y 1).val = _
  omega
theorem srcIx_part (s : Fin 3) (b : Fin 8) (h : Fin 4) (y : S512x2048.Idx) : (Rect.unit (s := S16522x2048) ![2048 * b.val + 512 * h.val, 0] S512x2048.size (inb_src b h)).emb y = srcIx b (partIx s h y) := by
  have h1 := partIx_1 s h y
  have h2 := partIx_2 s h y
  refine funext fun a => Fin.ext ?_
  fin_cases a
  · show 2048 * b.val + 512 * h.val + 1 * (y 0).val = 2048 * b.val + (partIx s h y 1).val
    rw [h1]; omega
  · show 0 + 1 * (y 1).val = (partIx s h y 2).val
    rw [h2]; omega
/-- Each landed part holds its rows of the block. -/
theorem landed_val (s : Fin 3) (b : Fin 8) (h : Fin 4) (f) (y : S512x2048.Idx) :
    landed c W s b h f ((rpart s h).view.emb y) = partBuf c W s h b ((rpart s h).view.emb y) := by
  have e1 : (rpart s h).view.read (Elt F) (landed c W s b h f) y = (srcB b h).view.read (Elt F) W y := by
    unfold landed; rw [View.read_writes_whole]
  have e2 : emAt c W ((Rect.unit (s := S16522x2048) ![2048 * b.val + 512 * h.val, 0] S512x2048.size (inb_src b h)).emb y) = blockBuf c W b (partIx s h y) := by
    rw [srcIx_part s]; rfl
  have e0 : ∀ g : HbBuf0 (F := F) c (rpart s h), g ((rpart s h).view.emb y) = (rpart s h).view.read (Elt F) g y := fun g => rfl
  have e3 : (srcB b h).view.read (Elt F) W y = emAt c W ((Rect.unit (s := S16522x2048) ![2048 * b.val + 512 * h.val, 0] S512x2048.size (inb_src b h)).emb y) := rfl
  have e4 : blockBuf c W b (partIx s h y) = partBuf c W s h b ((rpart s h).view.emb y) := rfl
  refine (e0 (landed c W s b h f)).trans ?_
  rw [e1, e3, e2, e4]
omit [FloatOps F] [Named F] in
theorem View.forall_set_of {κ : Kind} {sp : Space} {s : Shape} {e : EltTy} (v : View sig κ sp s e) (P : v.ty.Idx → Prop) (h : ∀ y, P (v.emb y)) : ∀ i ∈ v.set, P i := by
  intro i hi
  obtain ⟨y, -, rfl⟩ := Finset.mem_map.mp hi
  exact h y
theorem landed_eq (s : Fin 3) (b : Fin 8) (h : Fin 4) (f) : partP (F := F) c s h (landed c W s b h f) = partP c s h (partBuf c W s h b) := by
  exact pointsTo_congr (View.forall_set_of (rpart s h).view _ (landed_val c W s b h f))
/-- So the four landed parts are the slot holding the block. -/
theorem landed_slot (s : Fin 3) (b : Fin 8) (f0 f1 f2 f3) :
    iprop(partP (F := F) c s 0 (landed c W s b 0 f0) ∗ partP c s 1 (landed c W s b 1 f1) ∗ partP c s 2 (landed c W s b 2 f2) ∗ partP c s 3 (landed c W s b 3 f3)) = slotP c s (slotBuf c W s b) := by
  rw [slot_parts, landed_eq, landed_eq, landed_eq, landed_eq]; rfl
set_option maxHeartbeats 1000000 in
theorem slots_in : iprop(∃ d, owns (c : Thread nD τ) scM0_1 fullShare d) ⊢ (iprop((∃ f, slotP (F := F) c 0 f) ∗ (∃ f, slotP (F := F) c 1 f) ∗ ∃ f, slotP (F := F) c 2 f) : sProp 𝕄) := by
  simp only [scM0_1, owns_whole]
  exact Ring.slots3_split (U := Pipeline.UD sig nD τ) (ℓ := (c : Thread nD τ).loc cc0_scratch1) (q := fullShare) slotSet slots_disjoint slots_cover
    (slotP c 0) (slotP c 1) (slotP c 2) (slotP_eq c 0) (slotP_eq c 1) (slotP_eq c 2)
set_option maxHeartbeats 1000000 in
theorem slots_out : (iprop((∃ f, slotP (F := F) c 0 f) ∗ (∃ f, slotP (F := F) c 1 f) ∗ ∃ f, slotP (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet slots_disjoint slots_cover
    (slotP c 0) (slotP c 1) (slotP c 2) (slotP_eq c 0) (slotP_eq c 1) (slotP_eq c 2)
end InOut

/-- Into the ring. -/
theorem ring_in (c : Dev nD) (W : HbBuf0 (F := F) c hbM0_0) :
    iprop((∃ d, owns (c : Thread nD τ) scM0_1 fullShare d) ∗ (cell4 c 0 ∗ cell4 c 1 ∗ cell4 c 2) ∗ (((c : Thread nD τ).loc main_arg3) ↦[Finset.univ]{fullShare.right} W))
      ⊢ (ringAt c W 0 : sProp 𝕄) := by
  unfold ringAt; rw [if_pos rfl]; unfold Ring.At₀
  rw [Ring.bigSep_fin3]
  simp only [Ring.free]
  iintro ⟨HS, Hc, HW⟩
  iapply Ring.with_homes₀
  icases Hc with ⟨H0, H1, H2⟩
  ihave HS' := (slots_in (F := F) c) $$ HS
  icases HS' with ⟨⟨%d0, HS0⟩, ⟨%d1, HS1⟩, ⟨%d2, HS2⟩⟩
  ihave HW' := (whole_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- Out of the ring. -/
theorem ring_out (c : Dev nD) (W : HbBuf0 (F := F) c hbM0_0) :
    (ringAt c W 8 : sProp 𝕄)
      ⊢ iprop((∃ d, owns (c : Thread nD τ) scM0_1 fullShare d) ∗ (cell4 c 0 ∗ cell4 c 1 ∗ cell4 c 2) ∗ (((c : Thread nD τ).loc main_arg3) ↦[Finset.univ]{fullShare.right} W)) := by
  unfold ringAt; rw [if_neg (by decide)]
  iintro H
  ihave H' := (Ring.free3_of_At_last _ _ _ _) $$ H
  simp only [Ring.free]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole_split (F := F) c W).2; isplitl [HW0]; · iexact HW0
    isplitl [HW1]; · iexact HW1
    iexact HW2

/-! ## The body's operands are the ring's slots, parts, sources and cells -/

section Canon
omit [FloatOps F] [Named F]
set_option synthInstance.maxSize 4096 in
theorem coff1 : ∀ t : Fin grid0.N, cond0_0 (grid0.coords t) → (![0, 0, 0] : Fin 3 → Nat) = ![(Ring.sl 3 t.val).val, 512 * (0 : Fin 4).val, 0] := by decide +kernel
@[sl_canon] theorem canon1 (t : Fin grid0.N) (h0 : cond0_0 (grid0.coords t)) :
    (scM0_1.slice (Rect.unit (s := S3x2048x2048) (![0, 0, 0]) S1x512x2048.size inb_S3x2048x2048_S1x512x2048_0_0_0) (fun _ => rfl)).squeeze S512x2048 squeezes_S1x512x2048_S512x2048 = rpart (Ring.sl 3 t.val) 0 :=
  congrArg (fun M : Memref sig .tc .vmem S1x512x2048 .f32 => M.squeeze S512x2048 squeezes_S1x512x2048_S512x2048) (Memref.slice_unit_congr _ (coff1 t h0) _ _ (fun _ => rfl) (fun _ => rfl))
set_option synthInstance.maxSize 4096 in
theorem coff2 : ∀ t : Fin grid0.N, cond0_0 (grid0.coords t) → (![0, 0] : Fin 2 → Nat) = ![(Ring.sl 3 t.val).val, (0 : Fin 4).val] := by decide +kernel
@[sl_canon] theorem canon2 (t : Fin grid0.N) (h0 : cond0_0 (grid0.coords t)) :
    (cc0_scratch6.slice (Rect.unit (s := S3x4) (![0, 0]) S1x1.size inb_S3x4_S1x1_0_0)).squeeze S_ squeezes_S1x1_S_ = cellA (Ring.sl 3 t.val) 0 :=
  congrArg (fun A : DmaSems sig S1x1 => A.squeeze S_ squeezes_S1x1_S_) (SemArray.slice_unit_congr _ (coff2 t h0) _ _)
set_option synthInstance.maxSize 4096 in
theorem coff3 : ∀ t : Fin grid0.N, cond0_0 (grid0.coords t) → k0_off1 0#32 0#32 = ![2048 * (Ring.bk 8 t.val).val + 512 * (0 : Fin 4).val, 0] := by decide +kernel
@[sl_canon] theorem canon3 (t : Fin grid0.N) (h0 : cond0_0 (grid0.coords t)) :
    hbM0_0.slice (Rect.unit (s := S16522x2048) (k0_off1 0#32 0#32) S512x2048.size (k0_off1_inb (grid0.coords t) h0 0 0)) (fun _ => rfl) = srcB (Ring.bk 8 t.val) 0 :=
  congrArg (fun M : Memref sig .tc .hbm S512x2048 .f32 => M) (Memref.slice_unit_congr _ (coff3 t h0) _ _ (fun _ => rfl) (fun _ => rfl))
set_option synthInstance.maxSize 4096 in
theorem coff4 : ∀ t : Fin grid0.N, cond0_0 (grid0.coords t) → (![0, 512, 0] : Fin 3 → Nat) = ![(Ring.sl 3 t.val).val, 512 * (1 : Fin 4).val, 0] := by decide +kernel
@[sl_canon] theorem canon4 (t : Fin grid0.N) (h0 : cond0_0 (grid0.coords t)) :
    (scM0_1.slice (Rect.unit (s := S3x2048x2048) (![0, 512, 0]) S1x512x2048.size inb_S3x2048x2048_S1x512x2048_0_512_0) (fun _ => rfl)).squeeze S512x2048 squeezes_S1x512x2048_S512x2048 = rpart (Ring.sl 3 t.val) 1 :=
  congrArg (fun M : Memref sig .tc .vmem S1x512x2048 .f32 => M.squeeze S512x2048 squeezes_S1x512x2048_S512x2048) (Memref.slice_unit_congr _ (coff4 t h0) _ _ (fun _ => rfl) (fun _ => rfl))
set_option synthInstance.maxSize 4096 in
theorem coff5 : ∀ t : Fin grid0.N, cond0_0 (grid0.coords t) → (![0, 1] : Fin 2 → Nat) = ![(Ring.sl 3 t.val).val, (1 : Fin 4).val] := by decide +kernel
@[sl_canon] theorem canon5 (t : Fin grid0.N) (h0 : cond0_0 (grid0.coords t)) :
    (cc0_scratch6.slice (Rect.unit (s := S3x4) (![0, 1]) S1x1.size inb_S3x4_S1x1_0_1)).squeeze S_ squeezes_S1x1_S_ = cellA (Ring.sl 3 t.val) 1 :=
  congrArg (fun A : DmaSems sig S1x1 => A.squeeze S_ squeezes_S1x1_S_) (SemArray.slice_unit_congr _ (coff5 t h0) _ _)
set_option synthInstance.maxSize 4096 in
theorem coff6 : ∀ t : Fin grid0.N, cond0_0 (grid0.coords t) → k0_off1 0#32 512#32 = ![2048 * (Ring.bk 8 t.val).val + 512 * (1 : Fin 4).val, 0] := by decide +kernel
@[sl_canon] theorem canon6 (t : Fin grid0.N) (h0 : cond0_0 (grid0.coords t)) :
    hbM0_0.slice (Rect.unit (s := S16522x2048) (k0_off1 0#32 512#32) S512x2048.size (k0_off1_inb (grid0.coords t) h0 0 1)) (fun _ => rfl) = srcB (Ring.bk 8 t.val) 1 :=
  congrArg (fun M : Memref sig .tc .hbm S512x2048 .f32 => M) (Memref.slice_unit_congr _ (coff6 t h0) _ _ (fun _ => rfl) (fun _ => rfl))
set_option synthInstance.maxSize 4096 in
theorem coff7 : ∀ t : Fin grid0.N, cond0_0 (grid0.coords t) → (![0, 1024, 0] : Fin 3 → Nat) = ![(Ring.sl 3 t.val).val, 512 * (2 : Fin 4).val, 0] := by decide +kernel
@[sl_canon] theorem canon7 (t : Fin grid0.N) (h0 : cond0_0 (grid0.coords t)) :
    (scM0_1.slice (Rect.unit (s := S3x2048x2048) (![0, 1024, 0]) S1x512x2048.size inb_S3x2048x2048_S1x512x2048_0_1024_0) (fun _ => rfl)).squeeze S512x2048 squeezes_S1x512x2048_S512x2048 = rpart (Ring.sl 3 t.val) 2 :=
  congrArg (fun M : Memref sig .tc .vmem S1x512x2048 .f32 => M.squeeze S512x2048 squeezes_S1x512x2048_S512x2048) (Memref.slice_unit_congr _ (coff7 t h0) _ _ (fun _ => rfl) (fun _ => rfl))
set_option synthInstance.maxSize 4096 in
theorem coff8 : ∀ t : Fin grid0.N, cond0_0 (grid0.coords t) → (![0, 2] : Fin 2 → Nat) = ![(Ring.sl 3 t.val).val, (2 : Fin 4).val] := by decide +kernel
@[sl_canon] theorem canon8 (t : Fin grid0.N) (h0 : cond0_0 (grid0.coords t)) :
    (cc0_scratch6.slice (Rect.unit (s := S3x4) (![0, 2]) S1x1.size inb_S3x4_S1x1_0_2)).squeeze S_ squeezes_S1x1_S_ = cellA (Ring.sl 3 t.val) 2 :=
  congrArg (fun A : DmaSems sig S1x1 => A.squeeze S_ squeezes_S1x1_S_) (SemArray.slice_unit_congr _ (coff8 t h0) _ _)
set_option synthInstance.maxSize 4096 in
theorem coff9 : ∀ t : Fin grid0.N, cond0_0 (grid0.coords t) → k0_off1 0#32 1024#32 = ![2048 * (Ring.bk 8 t.val).val + 512 * (2 : Fin 4).val, 0] := by decide +kernel
@[sl_canon] theorem canon9 (t : Fin grid0.N) (h0 : cond0_0 (grid0.coords t)) :
    hbM0_0.slice (Rect.unit (s := S16522x2048) (k0_off1 0#32 1024#32) S512x2048.size (k0_off1_inb (grid0.coords t) h0 0 2)) (fun _ => rfl) = srcB (Ring.bk 8 t.val) 2 :=
  congrArg (fun M : Memref sig .tc .hbm S512x2048 .f32 => M) (Memref.slice_unit_congr _ (coff9 t h0) _ _ (fun _ => rfl) (fun _ => rfl))
set_option synthInstance.maxSize 4096 in
theorem coff10 : ∀ t : Fin grid0.N, cond0_0 (grid0.coords t) → (![0, 1536, 0] : Fin 3 → Nat) = ![(Ring.sl 3 t.val).val, 512 * (3 : Fin 4).val, 0] := by decide +kernel
@[sl_canon] theorem canon10 (t : Fin grid0.N) (h0 : cond0_0 (grid0.coords t)) :
    (scM0_1.slice (Rect.unit (s := S3x2048x2048) (![0, 1536, 0]) S1x512x2048.size inb_S3x2048x2048_S1x512x2048_0_1536_0) (fun _ => rfl)).squeeze S512x2048 squeezes_S1x512x2048_S512x2048 = rpart (Ring.sl 3 t.val) 3 :=
  congrArg (fun M : Memref sig .tc .vmem S1x512x2048 .f32 => M.squeeze S512x2048 squeezes_S1x512x2048_S512x2048) (Memref.slice_unit_congr _ (coff10 t h0) _ _ (fun _ => rfl) (fun _ => rfl))
set_option synthInstance.maxSize 4096 in
theorem coff11 : ∀ t : Fin grid0.N, cond0_0 (grid0.coords t) → (![0, 3] : Fin 2 → Nat) = ![(Ring.sl 3 t.val).val, (3 : Fin 4).val] := by decide +kernel
@[sl_canon] theorem canon11 (t : Fin grid0.N) (h0 : cond0_0 (grid0.coords t)) :
    (cc0_scratch6.slice (Rect.unit (s := S3x4) (![0, 3]) S1x1.size inb_S3x4_S1x1_0_3)).squeeze S_ squeezes_S1x1_S_ = cellA (Ring.sl 3 t.val) 3 :=
  congrArg (fun A : DmaSems sig S1x1 => A.squeeze S_ squeezes_S1x1_S_) (SemArray.slice_unit_congr _ (coff11 t h0) _ _)
set_option synthInstance.maxSize 4096 in
theorem coff12 : ∀ t : Fin grid0.N, cond0_0 (grid0.coords t) → k0_off1 0#32 1536#32 = ![2048 * (Ring.bk 8 t.val).val + 512 * (3 : Fin 4).val, 0] := by decide +kernel
@[sl_canon] theorem canon12 (t : Fin grid0.N) (h0 : cond0_0 (grid0.coords t)) :
    hbM0_0.slice (Rect.unit (s := S16522x2048) (k0_off1 0#32 1536#32) S512x2048.size (k0_off1_inb (grid0.coords t) h0 0 3)) (fun _ => rfl) = srcB (Ring.bk 8 t.val) 3 :=
  congrArg (fun M : Memref sig .tc .hbm S512x2048 .f32 => M) (Memref.slice_unit_congr _ (coff12 t h0) _ _ (fun _ => rfl) (fun _ => rfl))
set_option synthInstance.maxSize 4096 in
theorem coff13 : ∀ t : Fin grid0.N, cond0_0 (grid0.coords t) → (![1, 0, 0] : Fin 3 → Nat) = ![(Ring.sl 3 (t.val + 1)).val, 512 * (0 : Fin 4).val, 0] := by decide +kernel
@[sl_canon] theorem canon13 (t : Fin grid0.N) (h0 : cond0_0 (grid0.coords t)) :
    (scM0_1.slice (Rect.unit (s := S3x2048x2048) (![1, 0, 0]) S1x512x2048.size inb_S3x2048x2048_S1x512x2048_1_0_0) (fun _ => rfl)).squeeze S512x2048 squeezes_S1x512x2048_S512x2048 = rpart (Ring.sl 3 (t.val + 1)) 0 :=
  congrArg (fun M : Memref sig .tc .vmem S1x512x2048 .f32 => M.squeeze S512x2048 squeezes_S1x512x2048_S512x2048) (Memref.slice_unit_congr _ (coff13 t h0) _ _ (fun _ => rfl) (fun _ => rfl))
set_option synthInstance.maxSize 4096 in
theorem coff14 : ∀ t : Fin grid0.N, cond0_0 (grid0.coords t) → (![1, 0] : Fin 2 → Nat) = ![(Ring.sl 3 (t.val + 1)).val, (0 : Fin 4).val] := by decide +kernel
@[sl_canon] theorem canon14 (t : Fin grid0.N) (h0 : cond0_0 (grid0.coords t)) :
    (cc0_scratch6.slice (Rect.unit (s := S3x4) (![1, 0]) S1x1.size inb_S3x4_S1x1_1_0)).squeeze S_ squeezes_S1x1_S_ = cellA (Ring.sl 3 (t.val + 1)) 0 :=
  congrArg (fun A : DmaSems sig S1x1 => A.squeeze S_ squeezes_S1x1_S_) (SemArray.slice_unit_congr _ (coff14 t h0) _ _)
set_option synthInstance.maxSize 4096 in
theorem coff15 : ∀ t : Fin grid0.N, cond0_0 (grid0.coords t) → k0_off1 1#32 0#32 = ![2048 * (Ring.bk 8 (t.val + 1)).val + 512 * (0 : Fin 4).val, 0] := by decide +kernel
@[sl_canon] theorem canon15 (t : Fin grid0.N) (h0 : cond0_0 (grid0.coords t)) :
    hbM0_0.slice (Rect.unit (s := S16522x2048) (k0_off1 1#32 0#32) S512x2048.size (k0_off1_inb (grid0.coords t) h0 1 0)) (fun _ => rfl) = srcB (Ring.bk 8 (t.val + 1)) 0 :=
  congrArg (fun M : Memref sig .tc .hbm S512x2048 .f32 => M) (Memref.slice_unit_congr _ (coff15 t h0) _ _ (fun _ => rfl) (fun _ => rfl))
set_option synthInstance.maxSize 4096 in
theorem coff16 : ∀ t : Fin grid0.N, cond0_0 (grid0.coords t) → (![1, 512, 0] : Fin 3 → Nat) = ![(Ring.sl 3 (t.val + 1)).val, 512 * (1 : Fin 4).val, 0] := by decide +kernel
@[sl_canon] theorem canon16 (t : Fin grid0.N) (h0 : cond0_0 (grid0.coords t)) :
    (scM0_1.slice (Rect.unit (s := S3x2048x2048) (![1, 512, 0]) S1x512x2048.size inb_S3x2048x2048_S1x512x2048_1_512_0) (fun _ => rfl)).squeeze S512x2048 squeezes_S1x512x2048_S512x2048 = rpart (Ring.sl 3 (t.val + 1)) 1 :=
  congrArg (fun M : Memref sig .tc .vmem S1x512x2048 .f32 => M.squeeze S512x2048 squeezes_S1x512x2048_S512x2048) (Memref.slice_unit_congr _ (coff16 t h0) _ _ (fun _ => rfl) (fun _ => rfl))
set_option synthInstance.maxSize 4096 in
theorem coff17 : ∀ t : Fin grid0.N, cond0_0 (grid0.coords t) → (![1, 1] : Fin 2 → Nat) = ![(Ring.sl 3 (t.val + 1)).val, (1 : Fin 4).val] := by decide +kernel
@[sl_canon] theorem canon17 (t : Fin grid0.N) (h0 : cond0_0 (grid0.coords t)) :
    (cc0_scratch6.slice (Rect.unit (s := S3x4) (![1, 1]) S1x1.size inb_S3x4_S1x1_1_1)).squeeze S_ squeezes_S1x1_S_ = cellA (Ring.sl 3 (t.val + 1)) 1 :=
  congrArg (fun A : DmaSems sig S1x1 => A.squeeze S_ squeezes_S1x1_S_) (SemArray.slice_unit_congr _ (coff17 t h0) _ _)
set_option synthInstance.maxSize 4096 in
theorem coff18 : ∀ t : Fin grid0.N, cond0_0 (grid0.coords t) → k0_off1 1#32 512#32 = ![2048 * (Ring.bk 8 (t.val + 1)).val + 512 * (1 : Fin 4).val, 0] := by decide +kernel
@[sl_canon] theorem canon18 (t : Fin grid0.N) (h0 : cond0_0 (grid0.coords t)) :
    hbM0_0.slice (Rect.unit (s := S16522x2048) (k0_off1 1#32 512#32) S512x2048.size (k0_off1_inb (grid0.coords t) h0 1 1)) (fun _ => rfl) = srcB (Ring.bk 8 (t.val + 1)) 1 :=
  congrArg (fun M : Memref sig .tc .hbm S512x2048 .f32 => M) (Memref.slice_unit_congr _ (coff18 t h0) _ _ (fun _ => rfl) (fun _ => rfl))
set_option synthInstance.maxSize 4096 in
theorem coff19 : ∀ t : Fin grid0.N, cond0_0 (grid0.coords t) → (![1, 1024, 0] : Fin 3 → Nat) = ![(Ring.sl 3 (t.val + 1)).val, 512 * (2 : Fin 4).val, 0] := by decide +kernel
@[sl_canon] theorem canon19 (t : Fin grid0.N) (h0 : cond0_0 (grid0.coords t)) :
    (scM0_1.slice (Rect.unit (s := S3x2048x2048) (![1, 1024, 0]) S1x512x2048.size inb_S3x2048x2048_S1x512x2048_1_1024_0) (fun _ => rfl)).squeeze S512x2048 squeezes_S1x512x2048_S512x2048 = rpart (Ring.sl 3 (t.val + 1)) 2 :=
  congrArg (fun M : Memref sig .tc .vmem S1x512x2048 .f32 => M.squeeze S512x2048 squeezes_S1x512x2048_S512x2048) (Memref.slice_unit_congr _ (coff19 t h0) _ _ (fun _ => rfl) (fun _ => rfl))
set_option synthInstance.maxSize 4096 in
theorem coff20 : ∀ t : Fin grid0.N, cond0_0 (grid0.coords t) → (![1, 2] : Fin 2 → Nat) = ![(Ring.sl 3 (t.val + 1)).val, (2 : Fin 4).val] := by decide +kernel
@[sl_canon] theorem canon20 (t : Fin grid0.N) (h0 : cond0_0 (grid0.coords t)) :
    (cc0_scratch6.slice (Rect.unit (s := S3x4) (![1, 2]) S1x1.size inb_S3x4_S1x1_1_2)).squeeze S_ squeezes_S1x1_S_ = cellA (Ring.sl 3 (t.val + 1)) 2 :=
  congrArg (fun A : DmaSems sig S1x1 => A.squeeze S_ squeezes_S1x1_S_) (SemArray.slice_unit_congr _ (coff20 t h0) _ _)
set_option synthInstance.maxSize 4096 in
theorem coff21 : ∀ t : Fin grid0.N, cond0_0 (grid0.coords t) → k0_off1 1#32 1024#32 = ![2048 * (Ring.bk 8 (t.val + 1)).val + 512 * (2 : Fin 4).val, 0] := by decide +kernel
@[sl_canon] theorem canon21 (t : Fin grid0.N) (h0 : cond0_0 (grid0.coords t)) :
    hbM0_0.slice (Rect.unit (s := S16522x2048) (k0_off1 1#32 1024#32) S512x2048.size (k0_off1_inb (grid0.coords t) h0 1 2)) (fun _ => rfl) = srcB (Ring.bk 8 (t.val + 1)) 2 :=
  congrArg (fun M : Memref sig .tc .hbm S512x2048 .f32 => M) (Memref.slice_unit_congr _ (coff21 t h0) _ _ (fun _ => rfl) (fun _ => rfl))
set_option synthInstance.maxSize 4096 in
theorem coff22 : ∀ t : Fin grid0.N, cond0_0 (grid0.coords t) → (![1, 1536, 0] : Fin 3 → Nat) = ![(Ring.sl 3 (t.val + 1)).val, 512 * (3 : Fin 4).val, 0] := by decide +kernel
@[sl_canon] theorem canon22 (t : Fin grid0.N) (h0 : cond0_0 (grid0.coords t)) :
    (scM0_1.slice (Rect.unit (s := S3x2048x2048) (![1, 1536, 0]) S1x512x2048.size inb_S3x2048x2048_S1x512x2048_1_1536_0) (fun _ => rfl)).squeeze S512x2048 squeezes_S1x512x2048_S512x2048 = rpart (Ring.sl 3 (t.val + 1)) 3 :=
  congrArg (fun M : Memref sig .tc .vmem S1x512x2048 .f32 => M.squeeze S512x2048 squeezes_S1x512x2048_S512x2048) (Memref.slice_unit_congr _ (coff22 t h0) _ _ (fun _ => rfl) (fun _ => rfl))
set_option synthInstance.maxSize 4096 in
theorem coff23 : ∀ t : Fin grid0.N, cond0_0 (grid0.coords t) → (![1, 3] : Fin 2 → Nat) = ![(Ring.sl 3 (t.val + 1)).val, (3 : Fin 4).val] := by decide +kernel
@[sl_canon] theorem canon23 (t : Fin grid0.N) (h0 : cond0_0 (grid0.coords t)) :
    (cc0_scratch6.slice (Rect.unit (s := S3x4) (![1, 3]) S1x1.size inb_S3x4_S1x1_1_3)).squeeze S_ squeezes_S1x1_S_ = cellA (Ring.sl 3 (t.val + 1)) 3 :=
  congrArg (fun A : DmaSems sig S1x1 => A.squeeze S_ squeezes_S1x1_S_) (SemArray.slice_unit_congr _ (coff23 t h0) _ _)
set_option synthInstance.maxSize 4096 in
theorem coff24 : ∀ t : Fin grid0.N, cond0_0 (grid0.coords t) → k0_off1 1#32 1536#32 = ![2048 * (Ring.bk 8 (t.val + 1)).val + 512 * (3 : Fin 4).val, 0] := by decide +kernel
@[sl_canon] theorem canon24 (t : Fin grid0.N) (h0 : cond0_0 (grid0.coords t)) :
    hbM0_0.slice (Rect.unit (s := S16522x2048) (k0_off1 1#32 1536#32) S512x2048.size (k0_off1_inb (grid0.coords t) h0 1 3)) (fun _ => rfl) = srcB (Ring.bk 8 (t.val + 1)) 3 :=
  congrArg (fun M : Memref sig .tc .hbm S512x2048 .f32 => M) (Memref.slice_unit_congr _ (coff24 t h0) _ _ (fun _ => rfl) (fun _ => rfl))
set_option synthInstance.maxSize 4096 in
theorem coff25 : ∀ t : Fin grid0.N, cond0_1 (grid0.coords t) → k0_off3 (grid0.coords t) = ![(Ring.sl 3 (t.val + 2)).val, 512 * (0 : Fin 4).val, 0] := by decide +kernel
@[sl_canon] theorem canon25 (t : Fin grid0.N) (h1 : cond0_1 (grid0.coords t)) :
    (scM0_1.slice (Rect.unit (s := S3x2048x2048) (k0_off3 (grid0.coords t)) S1x512x2048.size (k0_off3_inb (grid0.coords t) h1)) (fun _ => rfl)).squeeze S512x2048 squeezes_S1x512x2048_S512x2048 = rpart (Ring.sl 3 (t.val + 2)) 0 :=
  congrArg (fun M : Memref sig .tc .vmem S1x512x2048 .f32 => M.squeeze S512x2048 squeezes_S1x512x2048_S512x2048) (Memref.slice_unit_congr _ (coff25 t h1) _ _ (fun _ => rfl) (fun _ => rfl))
set_option synthInstance.maxSize 4096 in
theorem coff26 : ∀ t : Fin grid0.N, cond0_1 (grid0.coords t) → k0_off2 (grid0.coords t) = ![(Ring.sl 3 (t.val + 2)).val, (0 : Fin 4).val] := by decide +kernel
@[sl_canon] theorem canon26 (t : Fin grid0.N) (h1 : cond0_1 (grid0.coords t)) :
    (cc0_scratch6.slice (Rect.unit (s := S3x4) (k0_off2 (grid0.coords t)) S1x1.size (k0_off2_inb (grid0.coords t) h1))).squeeze S_ squeezes_S1x1_S_ = cellA (Ring.sl 3 (t.val + 2)) 0 :=
  congrArg (fun A : DmaSems sig S1x1 => A.squeeze S_ squeezes_S1x1_S_) (SemArray.slice_unit_congr _ (coff26 t h1) _ _)
set_option synthInstance.maxSize 4096 in
theorem coff27 : ∀ t : Fin grid0.N, cond0_1 (grid0.coords t) → k0_off4 (grid0.coords t) 0#32 = ![2048 * (Ring.bk 8 (t.val + 2)).val + 512 * (0 : Fin 4).val, 0] := by decide +kernel
@[sl_canon] theorem canon27 (t : Fin grid0.N) (h1 : cond0_1 (grid0.coords t)) :
    hbM0_0.slice (Rect.unit (s := S16522x2048) (k0_off4 (grid0.coords t) 0#32) S512x2048.size (k0_off4_inb (grid0.coords t) h1 0)) (fun _ => rfl) = srcB (Ring.bk 8 (t.val + 2)) 0 :=
  congrArg (fun M : Memref sig .tc .hbm S512x2048 .f32 => M) (Memref.slice_unit_congr _ (coff27 t h1) _ _ (fun _ => rfl) (fun _ => rfl))
set_option synthInstance.maxSize 4096 in
theorem coff28 : ∀ t : Fin grid0.N, cond0_1 (grid0.coords t) → k0_off6 (grid0.coords t) = ![(Ring.sl 3 (t.val + 2)).val, 512 * (1 : Fin 4).val, 0] := by decide +kernel
@[sl_canon] theorem canon28 (t : Fin grid0.N) (h1 : cond0_1 (grid0.coords t)) :
    (scM0_1.slice (Rect.unit (s := S3x2048x2048) (k0_off6 (grid0.coords t)) S1x512x2048.size (k0_off6_inb (grid0.coords t) h1)) (fun _ => rfl)).squeeze S512x2048 squeezes_S1x512x2048_S512x2048 = rpart (Ring.sl 3 (t.val + 2)) 1 :=
  congrArg (fun M : Memref sig .tc .vmem S1x512x2048 .f32 => M.squeeze S512x2048 squeezes_S1x512x2048_S512x2048) (Memref.slice_unit_congr _ (coff28 t h1) _ _ (fun _ => rfl) (fun _ => rfl))
set_option synthInstance.maxSize 4096 in
theorem coff29 : ∀ t : Fin grid0.N, cond0_1 (grid0.coords t) → k0_off5 (grid0.coords t) = ![(Ring.sl 3 (t.val + 2)).val, (1 : Fin 4).val] := by decide +kernel
@[sl_canon] theorem canon29 (t : Fin grid0.N) (h1 : cond0_1 (grid0.coords t)) :
    (cc0_scratch6.slice (Rect.unit (s := S3x4) (k0_off5 (grid0.coords t)) S1x1.size (k0_off5_inb (grid0.coords t) h1))).squeeze S_ squeezes_S1x1_S_ = cellA (Ring.sl 3 (t.val + 2)) 1 :=
  congrArg (fun A : DmaSems sig S1x1 => A.squeeze S_ squeezes_S1x1_S_) (SemArray.slice_unit_congr _ (coff29 t h1) _ _)
set_option synthInstance.maxSize 4096 in
theorem coff30 : ∀ t : Fin grid0.N, cond0_1 (grid0.coords t) → k0_off4 (grid0.coords t) 512#32 = ![2048 * (Ring.bk 8 (t.val + 2)).val + 512 * (1 : Fin 4).val, 0] := by decide +kernel
@[sl_canon] theorem canon30 (t : Fin grid0.N) (h1 : cond0_1 (grid0.coords t)) :
    hbM0_0.slice (Rect.unit (s := S16522x2048) (k0_off4 (grid0.coords t) 512#32) S512x2048.size (k0_off4_inb (grid0.coords t) h1 1)) (fun _ => rfl) = srcB (Ring.bk 8 (t.val + 2)) 1 :=
  congrArg (fun M : Memref sig .tc .hbm S512x2048 .f32 => M) (Memref.slice_unit_congr _ (coff30 t h1) _ _ (fun _ => rfl) (fun _ => rfl))
set_option synthInstance.maxSize 4096 in
theorem coff31 : ∀ t : Fin grid0.N, cond0_1 (grid0.coords t) → k0_off8 (grid0.coords t) = ![(Ring.sl 3 (t.val + 2)).val, 512 * (2 : Fin 4).val, 0] := by decide +kernel
@[sl_canon] theorem canon31 (t : Fin grid0.N) (h1 : cond0_1 (grid0.coords t)) :
    (scM0_1.slice (Rect.unit (s := S3x2048x2048) (k0_off8 (grid0.coords t)) S1x512x2048.size (k0_off8_inb (grid0.coords t) h1)) (fun _ => rfl)).squeeze S512x2048 squeezes_S1x512x2048_S512x2048 = rpart (Ring.sl 3 (t.val + 2)) 2 :=
  congrArg (fun M : Memref sig .tc .vmem S1x512x2048 .f32 => M.squeeze S512x2048 squeezes_S1x512x2048_S512x2048) (Memref.slice_unit_congr _ (coff31 t h1) _ _ (fun _ => rfl) (fun _ => rfl))
set_option synthInstance.maxSize 4096 in
theorem coff32 : ∀ t : Fin grid0.N, cond0_1 (grid0.coords t) → k0_off7 (grid0.coords t) = ![(Ring.sl 3 (t.val + 2)).val, (2 : Fin 4).val] := by decide +kernel
@[sl_canon] theorem canon32 (t : Fin grid0.N) (h1 : cond0_1 (grid0.coords t)) :
    (cc0_scratch6.slice (Rect.unit (s := S3x4) (k0_off7 (grid0.coords t)) S1x1.size (k0_off7_inb (grid0.coords t) h1))).squeeze S_ squeezes_S1x1_S_ = cellA (Ring.sl 3 (t.val + 2)) 2 :=
  congrArg (fun A : DmaSems sig S1x1 => A.squeeze S_ squeezes_S1x1_S_) (SemArray.slice_unit_congr _ (coff32 t h1) _ _)
set_option synthInstance.maxSize 4096 in
theorem coff33 : ∀ t : Fin grid0.N, cond0_1 (grid0.coords t) → k0_off4 (grid0.coords t) 1024#32 = ![2048 * (Ring.bk 8 (t.val + 2)).val + 512 * (2 : Fin 4).val, 0] := by decide +kernel
@[sl_canon] theorem canon33 (t : Fin grid0.N) (h1 : cond0_1 (grid0.coords t)) :
    hbM0_0.slice (Rect.unit (s := S16522x2048) (k0_off4 (grid0.coords t) 1024#32) S512x2048.size (k0_off4_inb (grid0.coords t) h1 2)) (fun _ => rfl) = srcB (Ring.bk 8 (t.val + 2)) 2 :=
  congrArg (fun M : Memref sig .tc .hbm S512x2048 .f32 => M) (Memref.slice_unit_congr _ (coff33 t h1) _ _ (fun _ => rfl) (fun _ => rfl))
set_option synthInstance.maxSize 4096 in
theorem coff34 : ∀ t : Fin grid0.N, cond0_1 (grid0.coords t) → k0_off10 (grid0.coords t) = ![(Ring.sl 3 (t.val + 2)).val, 512 * (3 : Fin 4).val, 0] := by decide +kernel
@[sl_canon] theorem canon34 (t : Fin grid0.N) (h1 : cond0_1 (grid0.coords t)) :
    (scM0_1.slice (Rect.unit (s := S3x2048x2048) (k0_off10 (grid0.coords t)) S1x512x2048.size (k0_off10_inb (grid0.coords t) h1)) (fun _ => rfl)).squeeze S512x2048 squeezes_S1x512x2048_S512x2048 = rpart (Ring.sl 3 (t.val + 2)) 3 :=
  congrArg (fun M : Memref sig .tc .vmem S1x512x2048 .f32 => M.squeeze S512x2048 squeezes_S1x512x2048_S512x2048) (Memref.slice_unit_congr _ (coff34 t h1) _ _ (fun _ => rfl) (fun _ => rfl))
set_option synthInstance.maxSize 4096 in
theorem coff35 : ∀ t : Fin grid0.N, cond0_1 (grid0.coords t) → k0_off9 (grid0.coords t) = ![(Ring.sl 3 (t.val + 2)).val, (3 : Fin 4).val] := by decide +kernel
@[sl_canon] theorem canon35 (t : Fin grid0.N) (h1 : cond0_1 (grid0.coords t)) :
    (cc0_scratch6.slice (Rect.unit (s := S3x4) (k0_off9 (grid0.coords t)) S1x1.size (k0_off9_inb (grid0.coords t) h1))).squeeze S_ squeezes_S1x1_S_ = cellA (Ring.sl 3 (t.val + 2)) 3 :=
  congrArg (fun A : DmaSems sig S1x1 => A.squeeze S_ squeezes_S1x1_S_) (SemArray.slice_unit_congr _ (coff35 t h1) _ _)
set_option synthInstance.maxSize 4096 in
theorem coff36 : ∀ t : Fin grid0.N, cond0_1 (grid0.coords t) → k0_off4 (grid0.coords t) 1536#32 = ![2048 * (Ring.bk 8 (t.val + 2)).val + 512 * (3 : Fin 4).val, 0] := by decide +kernel
@[sl_canon] theorem canon36 (t : Fin grid0.N) (h1 : cond0_1 (grid0.coords t)) :
    hbM0_0.slice (Rect.unit (s := S16522x2048) (k0_off4 (grid0.coords t) 1536#32) S512x2048.size (k0_off4_inb (grid0.coords t) h1 3)) (fun _ => rfl) = srcB (Ring.bk 8 (t.val + 2)) 3 :=
  congrArg (fun M : Memref sig .tc .hbm S512x2048 .f32 => M) (Memref.slice_unit_congr _ (coff36 t h1) _ _ (fun _ => rfl) (fun _ => rfl))
set_option synthInstance.maxSize 4096 in
theorem coff37 : ∀ t : Fin grid0.N, k0_off12 (grid0.coords t) = ![(Ring.sl 3 t.val).val, 512 * (0 : Fin 4).val, 0] := by decide +kernel
@[sl_canon] theorem canon37 (t : Fin grid0.N) :
    (scM0_1.slice (Rect.unit (s := S3x2048x2048) (k0_off12 (grid0.coords t)) S1x512x2048.size (k0_off12_inb (grid0.coords t))) (fun _ => rfl)).squeeze S512x2048 squeezes_S1x512x2048_S512x2048 = rpart (Ring.sl 3 t.val) 0 :=
  congrArg (fun M : Memref sig .tc .vmem S1x512x2048 .f32 => M.squeeze S512x2048 squeezes_S1x512x2048_S512x2048) (Memref.slice_unit_congr _ (coff37 t) _ _ (fun _ => rfl) (fun _ => rfl))
set_option synthInstance.maxSize 4096 in
theorem coff38 : ∀ t : Fin grid0.N, k0_off11 (grid0.coords t) = ![(Ring.sl 3 t.val).val, (0 : Fin 4).val] := by decide +kernel
@[sl_canon] theorem canon38 (t : Fin grid0.N) :
    (cc0_scratch6.slice (Rect.unit (s := S3x4) (k0_off11 (grid0.coords t)) S1x1.size (k0_off11_inb (grid0.coords t)))).squeeze S_ squeezes_S1x1_S_ = cellA (Ring.sl 3 t.val) 0 :=
  congrArg (fun A : DmaSems sig S1x1 => A.squeeze S_ squeezes_S1x1_S_) (SemArray.slice_unit_congr _ (coff38 t) _ _)
set_option synthInstance.maxSize 4096 in
theorem coff39 : ∀ t : Fin grid0.N, k0_off13 (grid0.coords t) 0#32 = ![2048 * (Ring.bk 8 t.val).val + 512 * (0 : Fin 4).val, 0] := by decide +kernel
@[sl_canon] theorem canon39 (t : Fin grid0.N) :
    hbM0_0.slice (Rect.unit (s := S16522x2048) (k0_off13 (grid0.coords t) 0#32) S512x2048.size (k0_off13_inb (grid0.coords t) 0)) (fun _ => rfl) = srcB (Ring.bk 8 t.val) 0 :=
  congrArg (fun M : Memref sig .tc .hbm S512x2048 .f32 => M) (Memref.slice_unit_congr _ (coff39 t) _ _ (fun _ => rfl) (fun _ => rfl))
set_option synthInstance.maxSize 4096 in
theorem coff40 : ∀ t : Fin grid0.N, k0_off15 (grid0.coords t) = ![(Ring.sl 3 t.val).val, 512 * (1 : Fin 4).val, 0] := by decide +kernel
@[sl_canon] theorem canon40 (t : Fin grid0.N) :
    (scM0_1.slice (Rect.unit (s := S3x2048x2048) (k0_off15 (grid0.coords t)) S1x512x2048.size (k0_off15_inb (grid0.coords t))) (fun _ => rfl)).squeeze S512x2048 squeezes_S1x512x2048_S512x2048 = rpart (Ring.sl 3 t.val) 1 :=
  congrArg (fun M : Memref sig .tc .vmem S1x512x2048 .f32 => M.squeeze S512x2048 squeezes_S1x512x2048_S512x2048) (Memref.slice_unit_congr _ (coff40 t) _ _ (fun _ => rfl) (fun _ => rfl))
set_option synthInstance.maxSize 4096 in
theorem coff41 : ∀ t : Fin grid0.N, k0_off14 (grid0.coords t) = ![(Ring.sl 3 t.val).val, (1 : Fin 4).val] := by decide +kernel
@[sl_canon] theorem canon41 (t : Fin grid0.N) :
    (cc0_scratch6.slice (Rect.unit (s := S3x4) (k0_off14 (grid0.coords t)) S1x1.size (k0_off14_inb (grid0.coords t)))).squeeze S_ squeezes_S1x1_S_ = cellA (Ring.sl 3 t.val) 1 :=
  congrArg (fun A : DmaSems sig S1x1 => A.squeeze S_ squeezes_S1x1_S_) (SemArray.slice_unit_congr _ (coff41 t) _ _)
set_option synthInstance.maxSize 4096 in
theorem coff42 : ∀ t : Fin grid0.N, k0_off13 (grid0.coords t) 512#32 = ![2048 * (Ring.bk 8 t.val).val + 512 * (1 : Fin 4).val, 0] := by decide +kernel
@[sl_canon] theorem canon42 (t : Fin grid0.N) :
    hbM0_0.slice (Rect.unit (s := S16522x2048) (k0_off13 (grid0.coords t) 512#32) S512x2048.size (k0_off13_inb (grid0.coords t) 1)) (fun _ => rfl) = srcB (Ring.bk 8 t.val) 1 :=
  congrArg (fun M : Memref sig .tc .hbm S512x2048 .f32 => M) (Memref.slice_unit_congr _ (coff42 t) _ _ (fun _ => rfl) (fun _ => rfl))
set_option synthInstance.maxSize 4096 in
theorem coff43 : ∀ t : Fin grid0.N, k0_off17 (grid0.coords t) = ![(Ring.sl 3 t.val).val, 512 * (2 : Fin 4).val, 0] := by decide +kernel
@[sl_canon] theorem canon43 (t : Fin grid0.N) :
    (scM0_1.slice (Rect.unit (s := S3x2048x2048) (k0_off17 (grid0.coords t)) S1x512x2048.size (k0_off17_inb (grid0.coords t))) (fun _ => rfl)).squeeze S512x2048 squeezes_S1x512x2048_S512x2048 = rpart (Ring.sl 3 t.val) 2 :=
  congrArg (fun M : Memref sig .tc .vmem S1x512x2048 .f32 => M.squeeze S512x2048 squeezes_S1x512x2048_S512x2048) (Memref.slice_unit_congr _ (coff43 t) _ _ (fun _ => rfl) (fun _ => rfl))
set_option synthInstance.maxSize 4096 in
theorem coff44 : ∀ t : Fin grid0.N, k0_off16 (grid0.coords t) = ![(Ring.sl 3 t.val).val, (2 : Fin 4).val] := by decide +kernel
@[sl_canon] theorem canon44 (t : Fin grid0.N) :
    (cc0_scratch6.slice (Rect.unit (s := S3x4) (k0_off16 (grid0.coords t)) S1x1.size (k0_off16_inb (grid0.coords t)))).squeeze S_ squeezes_S1x1_S_ = cellA (Ring.sl 3 t.val) 2 :=
  congrArg (fun A : DmaSems sig S1x1 => A.squeeze S_ squeezes_S1x1_S_) (SemArray.slice_unit_congr _ (coff44 t) _ _)
set_option synthInstance.maxSize 4096 in
theorem coff45 : ∀ t : Fin grid0.N, k0_off13 (grid0.coords t) 1024#32 = ![2048 * (Ring.bk 8 t.val).val + 512 * (2 : Fin 4).val, 0] := by decide +kernel
@[sl_canon] theorem canon45 (t : Fin grid0.N) :
    hbM0_0.slice (Rect.unit (s := S16522x2048) (k0_off13 (grid0.coords t) 1024#32) S512x2048.size (k0_off13_inb (grid0.coords t) 2)) (fun _ => rfl) = srcB (Ring.bk 8 t.val) 2 :=
  congrArg (fun M : Memref sig .tc .hbm S512x2048 .f32 => M) (Memref.slice_unit_congr _ (coff45 t) _ _ (fun _ => rfl) (fun _ => rfl))
set_option synthInstance.maxSize 4096 in
theorem coff46 : ∀ t : Fin grid0.N, k0_off19 (grid0.coords t) = ![(Ring.sl 3 t.val).val, 512 * (3 : Fin 4).val, 0] := by decide +kernel
@[sl_canon] theorem canon46 (t : Fin grid0.N) :
    (scM0_1.slice (Rect.unit (s := S3x2048x2048) (k0_off19 (grid0.coords t)) S1x512x2048.size (k0_off19_inb (grid0.coords t))) (fun _ => rfl)).squeeze S512x2048 squeezes_S1x512x2048_S512x2048 = rpart (Ring.sl 3 t.val) 3 :=
  congrArg (fun M : Memref sig .tc .vmem S1x512x2048 .f32 => M.squeeze S512x2048 squeezes_S1x512x2048_S512x2048) (Memref.slice_unit_congr _ (coff46 t) _ _ (fun _ => rfl) (fun _ => rfl))
set_option synthInstance.maxSize 4096 in
theorem coff47 : ∀ t : Fin grid0.N, k0_off18 (grid0.coords t) = ![(Ring.sl 3 t.val).val, (3 : Fin 4).val] := by decide +kernel
@[sl_canon] theorem canon47 (t : Fin grid0.N) :
    (cc0_scratch6.slice (Rect.unit (s := S3x4) (k0_off18 (grid0.coords t)) S1x1.size (k0_off18_inb (grid0.coords t)))).squeeze S_ squeezes_S1x1_S_ = cellA (Ring.sl 3 t.val) 3 :=
  congrArg (fun A : DmaSems sig S1x1 => A.squeeze S_ squeezes_S1x1_S_) (SemArray.slice_unit_congr _ (coff47 t) _ _)
set_option synthInstance.maxSize 4096 in
theorem coff48 : ∀ t : Fin grid0.N, k0_off13 (grid0.coords t) 1536#32 = ![2048 * (Ring.bk 8 t.val).val + 512 * (3 : Fin 4).val, 0] := by decide +kernel
@[sl_canon] theorem canon48 (t : Fin grid0.N) :
    hbM0_0.slice (Rect.unit (s := S16522x2048) (k0_off13 (grid0.coords t) 1536#32) S512x2048.size (k0_off13_inb (grid0.coords t) 3)) (fun _ => rfl) = srcB (Ring.bk 8 t.val) 3 :=
  congrArg (fun M : Memref sig .tc .hbm S512x2048 .f32 => M) (Memref.slice_unit_congr _ (coff48 t) _ _ (fun _ => rfl) (fun _ => rfl))

set_option synthInstance.maxSize 4096 in
theorem coffLoad : ∀ t : Fin grid0.N, k0_off20 (grid0.coords t) = ![(Ring.sl 3 t.val).val, 0, 0] := by decide +kernel
/-- The chunk load's box, in the slot's spelling. -/
instance (priority := high) closedOffLoad (t : Fin grid0.N) : ClosedOff (k0_off20 (grid0.coords t)) := ⟨![(Ring.sl 3 t.val).val, 0, 0], coffLoad t⟩
end Canon

end Cert.KernelIdeal.Hand

end
-- ==== Proof.Ideal.State.lean ====
/-
  The running state the kernel carries between its points, and the steps the body takes on it.
-/
module

public import proofs.«01_k».proof.Proof.Ideal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The carried state: the running row maximum, the sum of exponentials, the label's logit and the top list. -/
structure St (F : FTy → Type) where
  m : Vec F S128x1 .f32
  s : Vec F S128x1 .f32
  v : Vec F S128x1 .f32
  k : Vec F S128x8 .f32

/-- The normalised inputs the first point stores. -/
def xsOf (x0 : Vec F S128x2048 .f32) : Vec F S128x2048 .f32 := k0_pay2 x0
/-- The state before any column. -/
def st0 : St F := ⟨k0_pay3, k0_pay4, k0_pay5, k0_pay6⟩
/-- The tail columns' step. -/
def tailStep (xs : Vec F S128x2048 .f32) (T : Vec F S256x2048 .f32) (lab : Vec F S128x1 .i32) (σ : St F) : St F :=
  ⟨k0_pay12 xs T σ.m, k0_pay11 xs T σ.m σ.s,
    k0_pay14 (k0_pay8 xs T) σ.v (k0_pay13 lab) (Scalar.ofBits .f32 0x00000000#32),
    k0_pay18 (k0_pay15 (k0_pay8 xs T) (k0_pay9 xs T) σ.k) (k0_pay16 (k0_pay8 xs T) (k0_pay9 xs T) σ.k) (k0_pay17 (k0_pay8 xs T) (k0_pay9 xs T) σ.k)⟩
/-- One chunk's step, at point number `a`. -/
def chunkStep (a : BitVec 32) (xs : Vec F S128x2048 .f32) (C : Vec F S1x2048x2048 .f32) (lab : Vec F S128x1 .i32) (σ : St F) : St F :=
  ⟨k0_pay24 (k0_pay22 xs C σ.m), k0_pay23 xs C σ.m σ.s, k0_pay25 (k0_pay19 xs C) (k0_pay20 a) σ.v lab,
    k0_pay32 (k0_pay19 xs C) (k0_pay21 xs C) (k0_pay26 (k0_pay19 xs C) (k0_pay21 xs C)) (k0_pay27 (k0_pay19 xs C) (k0_pay21 xs C))
      (k0_pay28 (k0_pay19 xs C) (k0_pay21 xs C)) (k0_pay29 (k0_pay19 xs C) (k0_pay21 xs C)) (k0_pay30 (k0_pay19 xs C) (k0_pay21 xs C)) k0_pay31 σ.k⟩
/-- What the last point writes. -/
def outOf (σ : St F) : F .f32 := k0_pay1 σ.m σ.s σ.k σ.v

/-- Block `b` as the body loads it. -/
def chunkOf (c : Dev nD) (W : HbBuf0 (F := F) c hbM0_0) (b : Fin 8) : Vec F S1x2048x2048 .f32 :=
  fun y => emAt c W (ValueIdx.ix2 (⟨2048 * b.val + (y 1).val, by have h := b.isLt; have h' : (y 1).val < 2048 := (y 1).isLt; omega⟩ : Fin 16522) (⟨(y 2).val, (y 2).isLt⟩ : Fin 2048))

/-- The state after the tail and the first `n` chunks. -/
def stAt (c : Dev nD) (W : HbBuf0 (F := F) c hbM0_0) (xs : Vec F S128x2048 .f32) (T : Vec F S256x2048 .f32) (lab : Vec F S128x1 .i32) : ℕ → St F
  | 0 => tailStep xs T lab st0
  | n + 1 => chunkStep (BitVec.ofNat 32 n) xs (chunkOf c W (Ring.bk 8 n)) lab (stAt c W xs T lab n)

end Cert.KernelIdeal.Hand

end
-- ==== Proof.Ideal.Load.lean ====
/-
  What the body loads from a slot holding a block.
-/
module

public import proofs.«01_k».proof.Proof.Ideal.State
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem off20_1 (t : Fin cfg0.N) : k0_off20 (grid0.coords t) 1 = 0 := congrFun (coffLoad t) 1
theorem off20_2 (t : Fin cfg0.N) : k0_off20 (grid0.coords t) 2 = 0 := congrFun (coffLoad t) 2
theorem blockBuf_read (c : Dev nD) (W : HbBuf0 (F := F) c hbM0_0) (b : Fin 8) (i : S3x2048x2048.Idx) (y : S1x2048x2048.Idx)
    (h1 : (i 1).val = (y 1).val) (h2 : (i 2).val = (y 2).val) : blockBuf c W b i = chunkOf c W b y := by
  unfold blockBuf chunkOf srcIx
  simp only [h1, h2]
/-- The chunk load reads the block. -/
theorem chunk_read (c : Dev nD) (t : Fin cfg0.N) (W : HbBuf0 (F := F) c hbM0_0) (s : Fin 3) (b : Fin 8) (inb) :
    View.readAt (Elt F) scM0_1.view (Rect.unit (s := S3x2048x2048) (k0_off20 (grid0.coords t)) S1x2048x2048.size inb).toLoadRect (slotBuf c W s b) = chunkOf c W b := by
  funext y
  refine blockBuf_read c W b _ y ?_ ?_
  · show k0_off20 (grid0.coords t) 1 + 1 * (y 1).val = _
    rw [off20_1]; omega
  · show k0_off20 (grid0.coords t) 2 + 1 * (y 2).val = _
    rw [off20_2]; omega

end Cert.KernelIdeal.Hand

end
-- ==== Proof.Ideal.RunA.lean ====
/-
  The body at the points of case A (first).
-/
module

public import proofs.«01_k».proof.Proof.Ideal.Load

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 3200000 in
theorem run_A (c : Dev nD) (t : Fin cfg0.N) (arg1 : Memref sig .tc .vmem S128x2048 .f32) (harg1 : arg1.IsWhole) (arg2 : Memref sig .tc .vmem S128x1 .i32) (harg2 : arg2.IsWhole) (arg3 : Memref sig .tc .vmem S256x2048 .f32) (harg3 : arg3.IsWhole) (arg5 : Memref sig .tc .smem S1x1 .f32) (harg5 : arg5.IsWhole)
    (hc0 : cond0_0 (grid0.coords t)) (hc1 : cond0_1 (grid0.coords t)) (hc2 : ¬cond0_2 (grid0.coords t))
    (x0 : Vec F S128x2048 .f32) (x1 : Vec F S128x1 .i32) (x2 : Vec F S256x2048 .f32) (W : HbBuf0 (F := F) c hbM0_0)
    (fa : HbBuf0 (F := F) c (rslot (Ring.sl 3 t.val))) (fb : HbBuf0 (F := F) c (rslot (Ring.sl 3 (t.val + 1)))) (fc : HbBuf0 (F := F) c (rslot (Ring.sl 3 (t.val + 2)))) :
      ∀ (Wt : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) scM0_0 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ cell4 c (Ring.sl 3 t.val) ∗ slotW c W (Ring.sl 3 t.val) fa ∗ cell4 c (Ring.sl 3 (t.val + 1)) ∗ slotW c W (Ring.sl 3 (t.val + 1)) fb ∗ cell4 c (Ring.sl 3 (t.val + 2)) ∗ slotW c W (Ring.sl 3 (t.val + 2)) fc ∗ owes (c : Thread nD τ) 0 Wt
            ∗ (iprop(owns (c : Thread nD τ) arg1 fullShare x0 ∗ owns (c : Thread nD τ) arg2 fullShare x1 ∗ owns (c : Thread nD τ) arg3 fullShare x2 ∗ owns (c : Thread nD τ) scM0_0 fullShare (xsOf x0) ∗ owns (c : Thread nD τ) scM0_2 fullShare (chunkStep (BitVec.ofNat 32 (grid0.coords t 0).val) (xsOf x0) (chunkOf c W (Ring.bk 8 t.val)) x1 (tailStep (xsOf x0) x2 x1 st0)).m ∗ owns (c : Thread nD τ) scM0_3 fullShare (chunkStep (BitVec.ofNat 32 (grid0.coords t 0).val) (xsOf x0) (chunkOf c W (Ring.bk 8 t.val)) x1 (tailStep (xsOf x0) x2 x1 st0)).s ∗ owns (c : Thread nD τ) scM0_4 fullShare (chunkStep (BitVec.ofNat 32 (grid0.coords t 0).val) (xsOf x0) (chunkOf c W (Ring.bk 8 t.val)) x1 (tailStep (xsOf x0) x2 x1 st0)).v ∗ owns (c : Thread nD τ) scM0_5 fullShare (chunkStep (BitVec.ofNat 32 (grid0.coords t 0).val) (xsOf x0) (chunkOf c W (Ring.bk 8 t.val)) x1 (tailStep (xsOf x0) x2 x1 st0)).k ∗ flightW c W (Ring.sl 3 (t.val + 1)) (Ring.bk 8 (t.val + 1)) fb ∗ flightW c W (Ring.sl 3 (t.val + 2)) (Ring.bk 8 (t.val + 2)) fc ∗ cell4 c (Ring.sl 3 t.val) ∗ slotW c W (Ring.sl 3 t.val) (slotBuf c W (Ring.sl 3 t.val) (Ring.bk 8 t.val)) ∗ (∃ W', owes (c : Thread nD τ) 0 W')) -∗ K ⟨⟩))
          ⊢ wp frame (wpE (defs₀ (F := F)) Variants.none c none) Set.univ (cc0__body (grid0.coords t) arg1 harg1 arg2 harg2 arg3 harg3 (Memref.whole main_arg3) (Memref.isWhole_whole _) arg5 harg5 scM0_0 (Memref.isWhole_whole _) scM0_1 (Memref.isWhole_whole _) scM0_2 (Memref.isWhole_whole _) scM0_3 (Memref.isWhole_whole _) scM0_4 (Memref.isWhole_whole _) scM0_5 (Memref.isWhole_whole _) cc0_scratch6) K := by
    intro Wt K
    haveI : Fact (cond0_0 (grid0.coords t)) := ⟨hc0⟩
    haveI : Fact (cond0_1 (grid0.coords t)) := ⟨hc1⟩
    haveI : Fact (¬cond0_2 (grid0.coords t)) := ⟨hc2⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d0, %g0, -, HS0⟩, ⟨%d2, %g2, -, HS2⟩, ⟨%d3, %g3, -, HS3⟩, ⟨%d4, %g4, -, HS4⟩, ⟨%d5, %g5, -, HS5⟩, ⟨Hc00, Hc01, Hc02, Hc03⟩, ⟨Hp0, Hw0⟩, ⟨Hc10, Hc11, Hc12, Hc13⟩, ⟨Hp1, Hw1⟩, ⟨Hc20, Hc21, Hc22, Hc23⟩, ⟨Hp2, Hw2⟩, HW, Hk⟩
    ihave Hpp0 := (Entails.of_eq (slot_parts c (Ring.sl 3 t.val) fa)) $$ Hp0
    icases Hpp0 with ⟨Hp00, Hp01, Hp02, Hp03⟩
    ihave Hsp0 := (src_split c W (Ring.sl 3 t.val) (Ring.bk 8 t.val)).1 $$ Hw0
    icases Hsp0 with ⟨⟨Hh00, Hh01, Hh02, Hh03⟩, Hr0⟩
    ihave Hpp1 := (Entails.of_eq (slot_parts c (Ring.sl 3 (t.val + 1)) fb)) $$ Hp1
    icases Hpp1 with ⟨Hp10, Hp11, Hp12, Hp13⟩
    ihave Hsp1 := (src_split c W (Ring.sl 3 (t.val + 1)) (Ring.bk 8 (t.val + 1))).1 $$ Hw1
    icases Hsp1 with ⟨⟨Hh10, Hh11, Hh12, Hh13⟩, Hr1⟩
    ihave Hpp2 := (Entails.of_eq (slot_parts c (Ring.sl 3 (t.val + 2)) fc)) $$ Hp2
    icases Hpp2 with ⟨Hp20, Hp21, Hp22, Hp23⟩
    ihave Hsp2 := (src_split c W (Ring.sl 3 (t.val + 2)) (Ring.bk 8 (t.val + 2))).1 $$ Hw2
    icases Hsp2 with ⟨⟨Hh20, Hh21, Hh22, Hh23⟩, Hr2⟩
    obtain rfl := harg1.eq_unread hf0
    obtain rfl := harg2.eq_unread hf1
    obtain rfl := harg3.eq_unread hf2
    sl_exec (disch := first | sl_exact hc0 | sl_exact hc1 | sl_exact hc2)
    ihave Hs := (Entails.of_eq (landed_slot c W (Ring.sl 3 t.val) (Ring.bk 8 t.val) (toPart c (Ring.sl 3 t.val) 0 fa) (toPart c (Ring.sl 3 t.val) 1 fa) (toPart c (Ring.sl 3 t.val) 2 fa) (toPart c (Ring.sl 3 t.val) 3 fa))) $$ [Hp00 Hp01 Hp02 Hp03]
    · isplitl [Hp00]; · iexact Hp00
      isplitl [Hp01]; · iexact Hp01
      isplitl [Hp02]; · iexact Hp02
      iexact Hp03
    sl_exec (disch := first | sl_exact hc0 | sl_exact hc1 | sl_exact hc2)
    have e0 := (View.readAt_full arg1.view (harg1.unread x0) inb_S128x2048_S128x2048_0_0).trans (harg1.read_unread x0)
    have e1 := (View.readAt_full arg2.view (harg2.unread x1) inb_S128x1_S128x1_0_0).trans (harg2.read_unread x1)
    have e2 := (View.readAt_full arg3.view (harg3.unread x2) inb_S256x2048_S256x2048_0_0).trans (harg3.read_unread x2)
    have eC := chunk_read c t W (Ring.sl 3 t.val) (Ring.bk 8 t.val) (k0_off20_inb (grid0.coords t))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]
    · iexists _; isplitr; swap; · iexact HS0
      ipureintro
      first | refine (View.read_writes_full _ _ _ _ _).trans ?_ | skip
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [e0]
      try rw [eC]
      try rw [e1]
      try rw [e2]
      set_option maxHeartbeats 100000 in rfl
    isplitl [HS2]
    · iexists _; isplitr; swap; · iexact HS2
      ipureintro
      first | refine (View.read_writes_full _ _ _ _ _).trans ?_ | skip
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [e0]
      try rw [eC]
      try rw [e1]
      try rw [e2]
      set_option maxHeartbeats 100000 in rfl
    isplitl [HS3]
    · iexists _; isplitr; swap; · iexact HS3
      ipureintro
      first | refine (View.read_writes_full _ _ _ _ _).trans ?_ | skip
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [e0]
      try rw [eC]
      try rw [e1]
      try rw [e2]
      set_option maxHeartbeats 100000 in rfl
    isplitl [HS4]
    · iexists _; isplitr; swap; · iexact HS4
      ipureintro
      first | refine (View.read_writes_full _ _ _ _ _).trans ?_ | skip
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [e0]
      try rw [eC]
      try rw [e1]
      try rw [e2]
      set_option maxHeartbeats 100000 in rfl
    isplitl [HS5]
    · iexists _; isplitr; swap; · iexact HS5
      ipureintro
      first | refine (View.read_writes_full _ _ _ _ _).trans ?_ | skip
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try delta run_A.sl.v145
      try delta run_A.sl.v109
      try delta run_A.sl.v76
      try delta run_A.sl.v67
      try delta run_A.sl.v66
      try delta run_A.sl.v63
      try delta run_A.sl.v60
      try delta run_A.sl.v50
      try delta run_A.sl.v48
      try delta run_A.sl.v39
      try delta run_A.sl.v37
      try delta run_A.sl.v338
      try delta run_A.sl.v302
      try delta run_A.sl.v269
      try delta run_A.sl.v260
      try delta run_A.sl.v259
      try delta run_A.sl.v256
      try delta run_A.sl.v253
      try delta run_A.sl.v243
      try delta run_A.sl.v241
      try delta run_A.sl.v230
      try delta run_A.sl.v229
      try delta run_A.sl.r_18
      try delta run_A.sl.r_17
      try delta run_A.sl.r_16
      try delta run_A.sl.r_15
      try delta run_A.sl.r_14
      try delta run_A.sl.r_13
      try delta run_A.sl.r_12
      try delta run_A.sl.r_11
      try delta run_A.sl.r_10
      try delta run_A.sl.r_9
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      try delta run_A.sl.HS0_3
      try delta run_A.sl.HS2_3
      try delta run_A.sl.HS3_3
      try delta run_A.sl.HS4_3
      try delta run_A.sl.HS5_3
      try delta run_A.sl.HS0_2
      try delta run_A.sl.HS2_2
      try delta run_A.sl.HS3_2
      try delta run_A.sl.HS4_2
      try delta run_A.sl.HS5_2
      try delta run_A.sl.HS0_1
      try delta run_A.sl.HS2_1
      try delta run_A.sl.HS3_1
      try delta run_A.sl.HS4_1
      try delta run_A.sl.HS5_1
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [View.readCov_full]
      try rw [e0]
      try rw [eC]
      try rw [e1]
      try rw [e2]
      set_option maxHeartbeats 100000 in rfl
    isplitl [Hc10 Hc11 Hc12 Hc13 Hr1]
    · isplitl [Hc10 Hc11 Hc12 Hc13]
      · isplitl [Hc10]; · iexists _; iexact Hc10
        isplitl [Hc11]; · iexists _; iexact Hc11
        isplitl [Hc12]; · iexists _; iexact Hc12
        iexists _; iexact Hc13
      iexact Hr1
    isplitl [Hc20 Hc21 Hc22 Hc23 Hr2]
    · isplitl [Hc20 Hc21 Hc22 Hc23]
      · isplitl [Hc20]; · iexists _; iexact Hc20
        isplitl [Hc21]; · iexists _; iexact Hc21
        isplitl [Hc22]; · iexists _; iexact Hc22
        iexists _; iexact Hc23
      iexact Hr2
    isplitl [Hc00 Hc01 Hc02 Hc03]
    · isplitl [Hc00]; · iexact Hc00
      isplitl [Hc01]; · iexact Hc01
      isplitl [Hc02]; · iexact Hc02
      iexact Hc03
    isplitl [Hs Hh00 Hh01 Hh02 Hh03 Hr0]
    · isplitl [Hs]; · iexact Hs
      iapply (src_split c W (Ring.sl 3 t.val) (Ring.bk 8 t.val)).2
      isplitl [Hh00 Hh01 Hh02 Hh03]
      · isplitl [Hh00]; · iexact Hh00
        isplitl [Hh01]; · iexact Hh01
        isplitl [Hh02]; · iexact Hh02
        iexact Hh03
      iexact Hr0
    iexists _; iexact HW

end Cert.KernelIdeal.Hand

end
-- ==== Proof.Ideal.RunB.lean ====
/-
  The body at the points of case B (later, a block still to be started).
-/
module

public import proofs.«01_k».proof.Proof.Ideal.Load

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 3200000 in
theorem run_B (c : Dev nD) (t : Fin cfg0.N) (arg1 : Memref sig .tc .vmem S128x2048 .f32) (harg1 : arg1.IsWhole) (arg2 : Memref sig .tc .vmem S128x1 .i32) (harg2 : arg2.IsWhole) (arg3 : Memref sig .tc .vmem S256x2048 .f32) (harg3 : arg3.IsWhole) (arg5 : Memref sig .tc .smem S1x1 .f32) (harg5 : arg5.IsWhole)
    (hc0 : ¬cond0_0 (grid0.coords t)) (hc1 : cond0_1 (grid0.coords t)) (hc2 : ¬cond0_2 (grid0.coords t))
    (x1 : Vec F S128x1 .i32) (xs : Vec F S128x2048 .f32) (σ : St F) (W : HbBuf0 (F := F) c hbM0_0)
    (f' : HbBuf0 (F := F) c (rslot (Ring.sl 3 t.val))) (fc : HbBuf0 (F := F) c (rslot (Ring.sl 3 (t.val + 2)))) :
      ∀ (Wt : Waits sig Unit) (K : PUnit → sProp 𝕄),
        iprop(owns (c : Thread nD τ) arg2 fullShare x1 ∗ owns (c : Thread nD τ) scM0_0 fullShare xs ∗ owns (c : Thread nD τ) scM0_2 fullShare σ.m ∗ owns (c : Thread nD τ) scM0_3 fullShare σ.s ∗ owns (c : Thread nD τ) scM0_4 fullShare σ.v ∗ owns (c : Thread nD τ) scM0_5 fullShare σ.k ∗ flightW c W (Ring.sl 3 t.val) (Ring.bk 8 t.val) f' ∗ cell4 c (Ring.sl 3 (t.val + 2)) ∗ slotW c W (Ring.sl 3 (t.val + 2)) fc ∗ owes (c : Thread nD τ) 0 Wt
            ∗ (iprop(owns (c : Thread nD τ) arg2 fullShare x1 ∗ owns (c : Thread nD τ) scM0_0 fullShare xs ∗ owns (c : Thread nD τ) scM0_2 fullShare (chunkStep (BitVec.ofNat 32 (grid0.coords t 0).val) xs (chunkOf c W (Ring.bk 8 t.val)) x1 σ).m ∗ owns (c : Thread nD τ) scM0_3 fullShare (chunkStep (BitVec.ofNat 32 (grid0.coords t 0).val) xs (chunkOf c W (Ring.bk 8 t.val)) x1 σ).s ∗ owns (c : Thread nD τ) scM0_4 fullShare (chunkStep (BitVec.ofNat 32 (grid0.coords t 0).val) xs (chunkOf c W (Ring.bk 8 t.val)) x1 σ).v ∗ owns (c : Thread nD τ) scM0_5 fullShare (chunkStep (BitVec.ofNat 32 (grid0.coords t 0).val) xs (chunkOf c W (Ring.bk 8 t.val)) x1 σ).k ∗ flightW c W (Ring.sl 3 (t.val + 2)) (Ring.bk 8 (t.val + 2)) fc ∗ cell4 c (Ring.sl 3 t.val) ∗ slotW c W (Ring.sl 3 t.val) (slotBuf c W (Ring.sl 3 t.val) (Ring.bk 8 t.val)) ∗ (∃ W', owes (c : Thread nD τ) 0 W')) -∗ K ⟨⟩))
          ⊢ wp frame (wpE (defs₀ (F := F)) Variants.none c none) Set.univ (cc0__body (grid0.coords t) arg1 harg1 arg2 harg2 arg3 harg3 (Memref.whole main_arg3) (Memref.isWhole_whole _) arg5 harg5 scM0_0 (Memref.isWhole_whole _) scM0_1 (Memref.isWhole_whole _) scM0_2 (Memref.isWhole_whole _) scM0_3 (Memref.isWhole_whole _) scM0_4 (Memref.isWhole_whole _) scM0_5 (Memref.isWhole_whole _) cc0_scratch6) K := by
    intro Wt K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%g0, %hg0, HS0⟩, ⟨%g2, %hg2, HS2⟩, ⟨%g3, %hg3, HS3⟩, ⟨%g4, %hg4, HS4⟩, ⟨%g5, %hg5, HS5⟩, ⟨⟨⟨%a0, Hf0⟩, ⟨%a1, Hf1⟩, ⟨%a2, Hf2⟩, ⟨%a3, Hf3⟩⟩, Hr⟩, ⟨Hc20, Hc21, Hc22, Hc23⟩, ⟨Hp2, Hw2⟩, HW, Hk⟩
    ihave Hpp2 := (Entails.of_eq (slot_parts c (Ring.sl 3 (t.val + 2)) fc)) $$ Hp2
    icases Hpp2 with ⟨Hp20, Hp21, Hp22, Hp23⟩
    ihave Hsp2 := (src_split c W (Ring.sl 3 (t.val + 2)) (Ring.bk 8 (t.val + 2))).1 $$ Hw2
    icases Hsp2 with ⟨⟨Hh20, Hh21, Hh22, Hh23⟩, Hr2⟩
    obtain rfl := harg2.eq_unread hf1
    sl_exec (disch := first | sl_exact hc0 | sl_exact hc1 | sl_exact hc2)
    ihave Hs := (Entails.of_eq (landed_slot c W (Ring.sl 3 t.val) (Ring.bk 8 t.val) a0 a1 a2 a3)) $$ [Hf0_dst Hf1_dst Hf2_dst Hf3_dst]
    · isplitl [Hf0_dst]; · iexact Hf0_dst
      isplitl [Hf1_dst]; · iexact Hf1_dst
      isplitl [Hf2_dst]; · iexact Hf2_dst
      iexact Hf3_dst
    sl_exec (disch := first | sl_exact hc0 | sl_exact hc1 | sl_exact hc2)
    have e0 := (View.readAt_full scM0_0.view g0 inb_S128x2048_S128x2048_0_0).trans hg0
    have e1 := (View.readAt_full arg2.view (harg2.unread x1) inb_S128x1_S128x1_0_0).trans (harg2.read_unread x1)
    have e2 := (View.readAt_full scM0_2.view g2 inb_S128x1_S128x1_0_0).trans hg2
    have e3 := (View.readAt_full scM0_3.view g3 inb_S128x1_S128x1_0_0).trans hg3
    have e4 := (View.readAt_full scM0_4.view g4 inb_S128x1_S128x1_0_0).trans hg4
    have e5 := (View.readAt_full scM0_5.view g5 inb_S128x8_S128x8_0_0).trans hg5
    have eC := chunk_read c t W (Ring.sl 3 t.val) (Ring.bk 8 t.val) (k0_off20_inb (grid0.coords t))
    sl_step
    iapply Hk
    isplitl [H1]
    · iexists _; isplitr; · ipureintro; exact harg2.read_unread _
      iexact H1
    isplitl [HS0]
    · iexists _; isplitr; swap; · iexact HS0
      ipureintro; exact hg0
    isplitl [HS2]
    · iexists _; isplitr; swap; · iexact HS2
      ipureintro
      try delta run_B.sl.HS0_1
      try delta run_B.sl.HS2_1
      try delta run_B.sl.HS3_1
      try delta run_B.sl.HS4_1
      try delta run_B.sl.HS5_1
      try delta run_B.sl.HS2_2
      try delta run_B.sl.HS3_2
      try delta run_B.sl.HS4_2
      try delta run_B.sl.HS5_2
      try delta run_B.sl.v
      try delta run_B.sl.v_1
      try delta run_B.sl.v_2
      try delta run_B.sl.v_3
      try delta run_B.sl.r_16
      try delta run_B.sl.r_15
      try delta run_B.sl.r_14
      try delta run_B.sl.r_13
      try delta run_B.sl.r_12
      try delta run_B.sl.r_11
      try delta run_B.sl.r_10
      try delta run_B.sl.r_9
      try delta run_B.sl.r_8
      try delta run_B.sl.r_7
      try delta run_B.sl.r_6
      try delta run_B.sl.r_5
      try delta run_B.sl.r_4
      try delta run_B.sl.r_3
      try delta run_B.sl.r_2
      try delta run_B.sl.r_1
      try delta run_B.sl.r
      refine (View.read_writes_full _ _ _ _ _).trans ?_
      try rw [e0]
      try rw [eC]
      try rw [e1]
      try rw [e2]
      try rw [e3]
      try rw [e4]
      try rw [e5]
      rfl
    isplitl [HS3]
    · iexists _; isplitr; swap; · iexact HS3
      ipureintro
      try delta run_B.sl.HS0_1
      try delta run_B.sl.HS2_1
      try delta run_B.sl.HS3_1
      try delta run_B.sl.HS4_1
      try delta run_B.sl.HS5_1
      try delta run_B.sl.HS2_2
      try delta run_B.sl.HS3_2
      try delta run_B.sl.HS4_2
      try delta run_B.sl.HS5_2
      try delta run_B.sl.v
      try delta run_B.sl.v_1
      try delta run_B.sl.v_2
      try delta run_B.sl.v_3
      try delta run_B.sl.r_16
      try delta run_B.sl.r_15
      try delta run_B.sl.r_14
      try delta run_B.sl.r_13
      try delta run_B.sl.r_12
      try delta run_B.sl.r_11
      try delta run_B.sl.r_10
      try delta run_B.sl.r_9
      try delta run_B.sl.r_8
      try delta run_B.sl.r_7
      try delta run_B.sl.r_6
      try delta run_B.sl.r_5
      try delta run_B.sl.r_4
      try delta run_B.sl.r_3
      try delta run_B.sl.r_2
      try delta run_B.sl.r_1
      try delta run_B.sl.r
      refine (View.read_writes_full _ _ _ _ _).trans ?_
      try rw [e0]
      try rw [eC]
      try rw [e1]
      try rw [e2]
      try rw [e3]
      try rw [e4]
      try rw [e5]
      rfl
    isplitl [HS4]
    · iexists _; isplitr; swap; · iexact HS4
      ipureintro
      try delta run_B.sl.HS0_1
      try delta run_B.sl.HS2_1
      try delta run_B.sl.HS3_1
      try delta run_B.sl.HS4_1
      try delta run_B.sl.HS5_1
      try delta run_B.sl.HS2_2
      try delta run_B.sl.HS3_2
      try delta run_B.sl.HS4_2
      try delta run_B.sl.HS5_2
      try delta run_B.sl.v
      try delta run_B.sl.v_1
      try delta run_B.sl.v_2
      try delta run_B.sl.v_3
      try delta run_B.sl.r_16
      try delta run_B.sl.r_15
      try delta run_B.sl.r_14
      try delta run_B.sl.r_13
      try delta run_B.sl.r_12
      try delta run_B.sl.r_11
      try delta run_B.sl.r_10
      try delta run_B.sl.r_9
      try delta run_B.sl.r_8
      try delta run_B.sl.r_7
      try delta run_B.sl.r_6
      try delta run_B.sl.r_5
      try delta run_B.sl.r_4
      try delta run_B.sl.r_3
      try delta run_B.sl.r_2
      try delta run_B.sl.r_1
      try delta run_B.sl.r
      refine (View.read_writes_full _ _ _ _ _).trans ?_
      try rw [e0]
      try rw [eC]
      try rw [e1]
      try rw [e2]
      try rw [e3]
      try rw [e4]
      try rw [e5]
      rfl
    isplitl [HS5]
    · iexists _; isplitr; swap; · iexact HS5
      ipureintro
      try delta run_B.sl.HS0_1
      try delta run_B.sl.HS2_1
      try delta run_B.sl.HS3_1
      try delta run_B.sl.HS4_1
      try delta run_B.sl.HS5_1
      try delta run_B.sl.HS2_2
      try delta run_B.sl.HS3_2
      try delta run_B.sl.HS4_2
      try delta run_B.sl.HS5_2
      try delta run_B.sl.v
      try delta run_B.sl.v_1
      try delta run_B.sl.v_2
      try delta run_B.sl.v_3
      try delta run_B.sl.r_16
      try delta run_B.sl.r_15
      try delta run_B.sl.r_14
      try delta run_B.sl.r_13
      try delta run_B.sl.r_12
      try delta run_B.sl.r_11
      try delta run_B.sl.r_10
      try delta run_B.sl.r_9
      try delta run_B.sl.r_8
      try delta run_B.sl.r_7
      try delta run_B.sl.r_6
      try delta run_B.sl.r_5
      try delta run_B.sl.r_4
      try delta run_B.sl.r_3
      try delta run_B.sl.r_2
      try delta run_B.sl.r_1
      try delta run_B.sl.r
      refine (View.read_writes_full _ _ _ _ _).trans ?_
      try rw [e0]
      try rw [eC]
      try rw [e1]
      try rw [e2]
      try rw [e3]
      try rw [e4]
      try rw [e5]
      rfl
    isplitl [Hc20 Hc21 Hc22 Hc23 Hr2]
    · isplitl [Hc20 Hc21 Hc22 Hc23]
      · isplitl [Hc20]; · iexists _; iexact Hc20
        isplitl [Hc21]; · iexists _; iexact Hc21
        isplitl [Hc22]; · iexists _; iexact Hc22
        iexists _; iexact Hc23
      iexact Hr2
    isplitl [Hf0 Hf1 Hf2 Hf3]
    · isplitl [Hf0]; · iexact Hf0
      isplitl [Hf1]; · iexact Hf1
      isplitl [Hf2]; · iexact Hf2
      iexact Hf3
    isplitl [Hs Hf0_src Hf1_src Hf2_src Hf3_src Hr]
    · isplitl [Hs]; · iexact Hs
      iapply (src_split c W (Ring.sl 3 t.val) (Ring.bk 8 t.val)).2
      isplitl [Hf0_src Hf1_src Hf2_src Hf3_src]
      · isplitl [Hf0_src]; · iexact Hf0_src
        isplitl [Hf1_src]; · iexact Hf1_src
        isplitl [Hf2_src]; · iexact Hf2_src
        iexact Hf3_src
      iexact Hr
    iexists _; iexact HW

end Cert.KernelIdeal.Hand

end
-- ==== Proof.Ideal.RunC.lean ====
/-
  The body at the points of case C (the last but one).
-/
module

public import proofs.«01_k».proof.Proof.Ideal.Load

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 3200000 in
theorem run_C (c : Dev nD) (t : Fin cfg0.N) (arg1 : Memref sig .tc .vmem S128x2048 .f32) (harg1 : arg1.IsWhole) (arg2 : Memref sig .tc .vmem S128x1 .i32) (harg2 : arg2.IsWhole) (arg3 : Memref sig .tc .vmem S256x2048 .f32) (harg3 : arg3.IsWhole) (arg5 : Memref sig .tc .smem S1x1 .f32) (harg5 : arg5.IsWhole)
    (hc0 : ¬cond0_0 (grid0.coords t)) (hc1 : ¬cond0_1 (grid0.coords t)) (hc2 : ¬cond0_2 (grid0.coords t))
    (x1 : Vec F S128x1 .i32) (xs : Vec F S128x2048 .f32) (σ : St F) (W : HbBuf0 (F := F) c hbM0_0)
    (f' : HbBuf0 (F := F) c (rslot (Ring.sl 3 t.val))) :
      ∀ (Wt : Waits sig Unit) (K : PUnit → sProp 𝕄),
        iprop(owns (c : Thread nD τ) arg2 fullShare x1 ∗ owns (c : Thread nD τ) scM0_0 fullShare xs ∗ owns (c : Thread nD τ) scM0_2 fullShare σ.m ∗ owns (c : Thread nD τ) scM0_3 fullShare σ.s ∗ owns (c : Thread nD τ) scM0_4 fullShare σ.v ∗ owns (c : Thread nD τ) scM0_5 fullShare σ.k ∗ flightW c W (Ring.sl 3 t.val) (Ring.bk 8 t.val) f' ∗ owes (c : Thread nD τ) 0 Wt
            ∗ (iprop(owns (c : Thread nD τ) arg2 fullShare x1 ∗ owns (c : Thread nD τ) scM0_0 fullShare xs ∗ owns (c : Thread nD τ) scM0_2 fullShare (chunkStep (BitVec.ofNat 32 (grid0.coords t 0).val) xs (chunkOf c W (Ring.bk 8 t.val)) x1 σ).m ∗ owns (c : Thread nD τ) scM0_3 fullShare (chunkStep (BitVec.ofNat 32 (grid0.coords t 0).val) xs (chunkOf c W (Ring.bk 8 t.val)) x1 σ).s ∗ owns (c : Thread nD τ) scM0_4 fullShare (chunkStep (BitVec.ofNat 32 (grid0.coords t 0).val) xs (chunkOf c W (Ring.bk 8 t.val)) x1 σ).v ∗ owns (c : Thread nD τ) scM0_5 fullShare (chunkStep (BitVec.ofNat 32 (grid0.coords t 0).val) xs (chunkOf c W (Ring.bk 8 t.val)) x1 σ).k ∗ cell4 c (Ring.sl 3 t.val) ∗ slotW c W (Ring.sl 3 t.val) (slotBuf c W (Ring.sl 3 t.val) (Ring.bk 8 t.val)) ∗ (∃ W', owes (c : Thread nD τ) 0 W')) -∗ K ⟨⟩))
          ⊢ wp frame (wpE (defs₀ (F := F)) Variants.none c none) Set.univ (cc0__body (grid0.coords t) arg1 harg1 arg2 harg2 arg3 harg3 (Memref.whole main_arg3) (Memref.isWhole_whole _) arg5 harg5 scM0_0 (Memref.isWhole_whole _) scM0_1 (Memref.isWhole_whole _) scM0_2 (Memref.isWhole_whole _) scM0_3 (Memref.isWhole_whole _) scM0_4 (Memref.isWhole_whole _) scM0_5 (Memref.isWhole_whole _) cc0_scratch6) K := by
    intro Wt K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%g0, %hg0, HS0⟩, ⟨%g2, %hg2, HS2⟩, ⟨%g3, %hg3, HS3⟩, ⟨%g4, %hg4, HS4⟩, ⟨%g5, %hg5, HS5⟩, ⟨⟨⟨%a0, Hf0⟩, ⟨%a1, Hf1⟩, ⟨%a2, Hf2⟩, ⟨%a3, Hf3⟩⟩, Hr⟩, HW, Hk⟩
    obtain rfl := harg2.eq_unread hf1
    sl_exec (disch := first | sl_exact hc0 | sl_exact hc1 | sl_exact hc2)
    ihave Hs := (Entails.of_eq (landed_slot c W (Ring.sl 3 t.val) (Ring.bk 8 t.val) a0 a1 a2 a3)) $$ [Hf0_dst Hf1_dst Hf2_dst Hf3_dst]
    · isplitl [Hf0_dst]; · iexact Hf0_dst
      isplitl [Hf1_dst]; · iexact Hf1_dst
      isplitl [Hf2_dst]; · iexact Hf2_dst
      iexact Hf3_dst
    sl_exec (disch := first | sl_exact hc0 | sl_exact hc1 | sl_exact hc2)
    have e0 := (View.readAt_full scM0_0.view g0 inb_S128x2048_S128x2048_0_0).trans hg0
    have e1 := (View.readAt_full arg2.view (harg2.unread x1) inb_S128x1_S128x1_0_0).trans (harg2.read_unread x1)
    have e2 := (View.readAt_full scM0_2.view g2 inb_S128x1_S128x1_0_0).trans hg2
    have e3 := (View.readAt_full scM0_3.view g3 inb_S128x1_S128x1_0_0).trans hg3
    have e4 := (View.readAt_full scM0_4.view g4 inb_S128x1_S128x1_0_0).trans hg4
    have e5 := (View.readAt_full scM0_5.view g5 inb_S128x8_S128x8_0_0).trans hg5
    have eC := chunk_read c t W (Ring.sl 3 t.val) (Ring.bk 8 t.val) (k0_off20_inb (grid0.coords t))
    sl_step
    iapply Hk
    isplitl [H1]
    · iexists _; isplitr; · ipureintro; exact harg2.read_unread _
      iexact H1
    isplitl [HS0]
    · iexists _; isplitr; swap; · iexact HS0
      ipureintro; exact hg0
    isplitl [HS2]
    · iexists _; isplitr; swap; · iexact HS2
      ipureintro
      try delta run_C.sl.HS0_1
      try delta run_C.sl.HS2_1
      try delta run_C.sl.HS3_1
      try delta run_C.sl.HS4_1
      try delta run_C.sl.HS5_1
      try delta run_C.sl.HS2_2
      try delta run_C.sl.HS3_2
      try delta run_C.sl.HS4_2
      try delta run_C.sl.HS5_2
      try delta run_C.sl.v
      try delta run_C.sl.v_1
      try delta run_C.sl.v_2
      try delta run_C.sl.v_3
      try delta run_C.sl.r_16
      try delta run_C.sl.r_15
      try delta run_C.sl.r_14
      try delta run_C.sl.r_13
      try delta run_C.sl.r_12
      try delta run_C.sl.r_11
      try delta run_C.sl.r_10
      try delta run_C.sl.r_9
      try delta run_C.sl.r_8
      try delta run_C.sl.r_7
      try delta run_C.sl.r_6
      try delta run_C.sl.r_5
      try delta run_C.sl.r_4
      try delta run_C.sl.r_3
      try delta run_C.sl.r_2
      try delta run_C.sl.r_1
      try delta run_C.sl.r
      refine (View.read_writes_full _ _ _ _ _).trans ?_
      try rw [e0]
      try rw [eC]
      try rw [e1]
      try rw [e2]
      try rw [e3]
      try rw [e4]
      try rw [e5]
      rfl
    isplitl [HS3]
    · iexists _; isplitr; swap; · iexact HS3
      ipureintro
      try delta run_C.sl.HS0_1
      try delta run_C.sl.HS2_1
      try delta run_C.sl.HS3_1
      try delta run_C.sl.HS4_1
      try delta run_C.sl.HS5_1
      try delta run_C.sl.HS2_2
      try delta run_C.sl.HS3_2
      try delta run_C.sl.HS4_2
      try delta run_C.sl.HS5_2
      try delta run_C.sl.v
      try delta run_C.sl.v_1
      try delta run_C.sl.v_2
      try delta run_C.sl.v_3
      try delta run_C.sl.r_16
      try delta run_C.sl.r_15
      try delta run_C.sl.r_14
      try delta run_C.sl.r_13
      try delta run_C.sl.r_12
      try delta run_C.sl.r_11
      try delta run_C.sl.r_10
      try delta run_C.sl.r_9
      try delta run_C.sl.r_8
      try delta run_C.sl.r_7
      try delta run_C.sl.r_6
      try delta run_C.sl.r_5
      try delta run_C.sl.r_4
      try delta run_C.sl.r_3
      try delta run_C.sl.r_2
      try delta run_C.sl.r_1
      try delta run_C.sl.r
      refine (View.read_writes_full _ _ _ _ _).trans ?_
      try rw [e0]
      try rw [eC]
      try rw [e1]
      try rw [e2]
      try rw [e3]
      try rw [e4]
      try rw [e5]
      rfl
    isplitl [HS4]
    · iexists _; isplitr; swap; · iexact HS4
      ipureintro
      try delta run_C.sl.HS0_1
      try delta run_C.sl.HS2_1
      try delta run_C.sl.HS3_1
      try delta run_C.sl.HS4_1
      try delta run_C.sl.HS5_1
      try delta run_C.sl.HS2_2
      try delta run_C.sl.HS3_2
      try delta run_C.sl.HS4_2
      try delta run_C.sl.HS5_2
      try delta run_C.sl.v
      try delta run_C.sl.v_1
      try delta run_C.sl.v_2
      try delta run_C.sl.v_3
      try delta run_C.sl.r_16
      try delta run_C.sl.r_15
      try delta run_C.sl.r_14
      try delta run_C.sl.r_13
      try delta run_C.sl.r_12
      try delta run_C.sl.r_11
      try delta run_C.sl.r_10
      try delta run_C.sl.r_9
      try delta run_C.sl.r_8
      try delta run_C.sl.r_7
      try delta run_C.sl.r_6
      try delta run_C.sl.r_5
      try delta run_C.sl.r_4
      try delta run_C.sl.r_3
      try delta run_C.sl.r_2
      try delta run_C.sl.r_1
      try delta run_C.sl.r
      refine (View.read_writes_full _ _ _ _ _).trans ?_
      try rw [e0]
      try rw [eC]
      try rw [e1]
      try rw [e2]
      try rw [e3]
      try rw [e4]
      try rw [e5]
      rfl
    isplitl [HS5]
    · iexists _; isplitr; swap; · iexact HS5
      ipureintro
      try delta run_C.sl.HS0_1
      try delta run_C.sl.HS2_1
      try delta run_C.sl.HS3_1
      try delta run_C.sl.HS4_1
      try delta run_C.sl.HS5_1
      try delta run_C.sl.HS2_2
      try delta run_C.sl.HS3_2
      try delta run_C.sl.HS4_2
      try delta run_C.sl.HS5_2
      try delta run_C.sl.v
      try delta run_C.sl.v_1
      try delta run_C.sl.v_2
      try delta run_C.sl.v_3
      try delta run_C.sl.r_16
      try delta run_C.sl.r_15
      try delta run_C.sl.r_14
      try delta run_C.sl.r_13
      try delta run_C.sl.r_12
      try delta run_C.sl.r_11
      try delta run_C.sl.r_10
      try delta run_C.sl.r_9
      try delta run_C.sl.r_8
      try delta run_C.sl.r_7
      try delta run_C.sl.r_6
      try delta run_C.sl.r_5
      try delta run_C.sl.r_4
      try delta run_C.sl.r_3
      try delta run_C.sl.r_2
      try delta run_C.sl.r_1
      try delta run_C.sl.r
      refine (View.read_writes_full _ _ _ _ _).trans ?_
      try rw [e0]
      try rw [eC]
      try rw [e1]
      try rw [e2]
      try rw [e3]
      try rw [e4]
      try rw [e5]
      rfl
    isplitl [Hf0 Hf1 Hf2 Hf3]
    · isplitl [Hf0]; · iexact Hf0
      isplitl [Hf1]; · iexact Hf1
      isplitl [Hf2]; · iexact Hf2
      iexact Hf3
    isplitl [Hs Hf0_src Hf1_src Hf2_src Hf3_src Hr]
    · isplitl [Hs]; · iexact Hs
      iapply (src_split c W (Ring.sl 3 t.val) (Ring.bk 8 t.val)).2
      isplitl [Hf0_src Hf1_src Hf2_src Hf3_src]
      · isplitl [Hf0_src]; · iexact Hf0_src
        isplitl [Hf1_src]; · iexact Hf1_src
        isplitl [Hf2_src]; · iexact Hf2_src
        iexact Hf3_src
      iexact Hr
    iexists _; iexact HW

end Cert.KernelIdeal.Hand

end
-- ==== Proof.Ideal.RunD.lean ====
/-
  The body at the points of case D (last).
-/
module

public import proofs.«01_k».proof.Proof.Ideal.Load

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 3200000 in
theorem run_D (c : Dev nD) (t : Fin cfg0.N) (arg1 : Memref sig .tc .vmem S128x2048 .f32) (harg1 : arg1.IsWhole) (arg2 : Memref sig .tc .vmem S128x1 .i32) (harg2 : arg2.IsWhole) (arg3 : Memref sig .tc .vmem S256x2048 .f32) (harg3 : arg3.IsWhole) (arg5 : Memref sig .tc .smem S1x1 .f32) (harg5 : arg5.IsWhole)
    (hc0 : ¬cond0_0 (grid0.coords t)) (hc1 : ¬cond0_1 (grid0.coords t)) (hc2 : cond0_2 (grid0.coords t))
    (x1 : Vec F S128x1 .i32) (xs : Vec F S128x2048 .f32) (σ : St F) (W : HbBuf0 (F := F) c hbM0_0)
    (f' : HbBuf0 (F := F) c (rslot (Ring.sl 3 t.val))) :
      ∀ (Wt : Waits sig Unit) (K : PUnit → sProp 𝕄),
        iprop(owns (c : Thread nD τ) arg2 fullShare x1 ∗ (∃ d, owns (c : Thread nD τ) arg5 fullShare d) ∗ owns (c : Thread nD τ) scM0_0 fullShare xs ∗ owns (c : Thread nD τ) scM0_2 fullShare σ.m ∗ owns (c : Thread nD τ) scM0_3 fullShare σ.s ∗ owns (c : Thread nD τ) scM0_4 fullShare σ.v ∗ owns (c : Thread nD τ) scM0_5 fullShare σ.k ∗ flightW c W (Ring.sl 3 t.val) (Ring.bk 8 t.val) f' ∗ owes (c : Thread nD τ) 0 Wt
            ∗ (iprop(owns (c : Thread nD τ) arg2 fullShare x1 ∗ owns (c : Thread nD τ) arg5 fullShare (fun _ => outOf (chunkStep (BitVec.ofNat 32 (grid0.coords t 0).val) xs (chunkOf c W (Ring.bk 8 t.val)) x1 σ)) ∗ owns (c : Thread nD τ) scM0_0 fullShare xs ∗ owns (c : Thread nD τ) scM0_2 fullShare (chunkStep (BitVec.ofNat 32 (grid0.coords t 0).val) xs (chunkOf c W (Ring.bk 8 t.val)) x1 σ).m ∗ owns (c : Thread nD τ) scM0_3 fullShare (chunkStep (BitVec.ofNat 32 (grid0.coords t 0).val) xs (chunkOf c W (Ring.bk 8 t.val)) x1 σ).s ∗ owns (c : Thread nD τ) scM0_4 fullShare (chunkStep (BitVec.ofNat 32 (grid0.coords t 0).val) xs (chunkOf c W (Ring.bk 8 t.val)) x1 σ).v ∗ owns (c : Thread nD τ) scM0_5 fullShare (chunkStep (BitVec.ofNat 32 (grid0.coords t 0).val) xs (chunkOf c W (Ring.bk 8 t.val)) x1 σ).k ∗ cell4 c (Ring.sl 3 t.val) ∗ slotW c W (Ring.sl 3 t.val) (slotBuf c W (Ring.sl 3 t.val) (Ring.bk 8 t.val)) ∗ (∃ W', owes (c : Thread nD τ) 0 W')) -∗ K ⟨⟩))
          ⊢ wp frame (wpE (defs₀ (F := F)) Variants.none c none) Set.univ (cc0__body (grid0.coords t) arg1 harg1 arg2 harg2 arg3 harg3 (Memref.whole main_arg3) (Memref.isWhole_whole _) arg5 harg5 scM0_0 (Memref.isWhole_whole _) scM0_1 (Memref.isWhole_whole _) scM0_2 (Memref.isWhole_whole _) scM0_3 (Memref.isWhole_whole _) scM0_4 (Memref.isWhole_whole _) scM0_5 (Memref.isWhole_whole _) cc0_scratch6) K := by
    intro Wt K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%d3, %f3, -, H3⟩, ⟨%g0, %hg0, HS0⟩, ⟨%g2, %hg2, HS2⟩, ⟨%g3, %hg3, HS3⟩, ⟨%g4, %hg4, HS4⟩, ⟨%g5, %hg5, HS5⟩, ⟨⟨⟨%a0, Hf0⟩, ⟨%a1, Hf1⟩, ⟨%a2, Hf2⟩, ⟨%a3, Hf3⟩⟩, Hr⟩, HW, Hk⟩
    obtain rfl := harg2.eq_unread hf1
    sl_exec (disch := first | sl_exact hc0 | sl_exact hc1 | sl_exact hc2)
    ihave Hs := (Entails.of_eq (landed_slot c W (Ring.sl 3 t.val) (Ring.bk 8 t.val) a0 a1 a2 a3)) $$ [Hf0_dst Hf1_dst Hf2_dst Hf3_dst]
    · isplitl [Hf0_dst]; · iexact Hf0_dst
      isplitl [Hf1_dst]; · iexact Hf1_dst
      isplitl [Hf2_dst]; · iexact Hf2_dst
      iexact Hf3_dst
    sl_exec (disch := first | sl_exact hc0 | sl_exact hc1 | sl_exact hc2)
    have e0 := (View.readAt_full scM0_0.view g0 inb_S128x2048_S128x2048_0_0).trans hg0
    have e1 := (View.readAt_full arg2.view (harg2.unread x1) inb_S128x1_S128x1_0_0).trans (harg2.read_unread x1)
    have e2 := (View.readAt_full scM0_2.view g2 inb_S128x1_S128x1_0_0).trans hg2
    have e3 := (View.readAt_full scM0_3.view g3 inb_S128x1_S128x1_0_0).trans hg3
    have e4 := (View.readAt_full scM0_4.view g4 inb_S128x1_S128x1_0_0).trans hg4
    have e5 := (View.readAt_full scM0_5.view g5 inb_S128x8_S128x8_0_0).trans hg5
    have eC := chunk_read c t W (Ring.sl 3 t.val) (Ring.bk 8 t.val) (k0_off20_inb (grid0.coords t))
    sl_step
    iapply Hk
    isplitl [H1]
    · iexists _; isplitr; · ipureintro; exact harg2.read_unread _
      iexact H1
    isplitl [H3]
    · iexists _; isplitr; swap; · iexact H3
      ipureintro
      try delta run_D.sl.v151
      try delta run_D.sl.v152
      try delta run_D.sl.v155
      try delta run_D.sl.v159
      try delta run_D.sl.HS0_1
      try delta run_D.sl.HS2_1
      try delta run_D.sl.HS3_1
      try delta run_D.sl.HS4_1
      try delta run_D.sl.HS5_1
      try delta run_D.sl.HS2_2
      try delta run_D.sl.HS3_2
      try delta run_D.sl.HS4_2
      try delta run_D.sl.HS5_2
      try delta run_D.sl.v
      try delta run_D.sl.v_1
      try delta run_D.sl.v_2
      try delta run_D.sl.v_3
      try delta run_D.sl.r_16
      try delta run_D.sl.r_15
      try delta run_D.sl.r_14
      try delta run_D.sl.r_13
      try delta run_D.sl.r_12
      try delta run_D.sl.r_11
      try delta run_D.sl.r_10
      try delta run_D.sl.r_9
      try delta run_D.sl.r_8
      try delta run_D.sl.r_7
      try delta run_D.sl.r_6
      try delta run_D.sl.r_5
      try delta run_D.sl.r_4
      try delta run_D.sl.r_3
      try delta run_D.sl.r_2
      try delta run_D.sl.r_1
      try delta run_D.sl.r
      first | refine (View.read_writes_full _ _ _ _ _).trans ?_ | skip
      try rw [View.readCov_full]
      try rw [View.readCov_full]
      try rw [View.readCov_full]
      try rw [View.readCov_full]
      try rw [e0]
      try rw [eC]
      try rw [e1]
      try rw [e2]
      try rw [e3]
      try rw [e4]
      try rw [e5]
      rfl
    isplitl [HS0]
    · iexists _; isplitr; swap; · iexact HS0
      ipureintro; exact hg0
    isplitl [HS2]
    · iexists _; isplitr; swap; · iexact HS2
      ipureintro
      try delta run_D.sl.v151
      try delta run_D.sl.v152
      try delta run_D.sl.v155
      try delta run_D.sl.v159
      try delta run_D.sl.HS0_1
      try delta run_D.sl.HS2_1
      try delta run_D.sl.HS3_1
      try delta run_D.sl.HS4_1
      try delta run_D.sl.HS5_1
      try delta run_D.sl.HS2_2
      try delta run_D.sl.HS3_2
      try delta run_D.sl.HS4_2
      try delta run_D.sl.HS5_2
      try delta run_D.sl.v
      try delta run_D.sl.v_1
      try delta run_D.sl.v_2
      try delta run_D.sl.v_3
      try delta run_D.sl.r_16
      try delta run_D.sl.r_15
      try delta run_D.sl.r_14
      try delta run_D.sl.r_13
      try delta run_D.sl.r_12
      try delta run_D.sl.r_11
      try delta run_D.sl.r_10
      try delta run_D.sl.r_9
      try delta run_D.sl.r_8
      try delta run_D.sl.r_7
      try delta run_D.sl.r_6
      try delta run_D.sl.r_5
      try delta run_D.sl.r_4
      try delta run_D.sl.r_3
      try delta run_D.sl.r_2
      try delta run_D.sl.r_1
      try delta run_D.sl.r
      first | refine (View.read_writes_full _ _ _ _ _).trans ?_ | skip
      try rw [View.readCov_full]
      try rw [View.readCov_full]
      try rw [View.readCov_full]
      try rw [View.readCov_full]
      try rw [e0]
      try rw [eC]
      try rw [e1]
      try rw [e2]
      try rw [e3]
      try rw [e4]
      try rw [e5]
      rfl
    isplitl [HS3]
    · iexists _; isplitr; swap; · iexact HS3
      ipureintro
      try delta run_D.sl.v151
      try delta run_D.sl.v152
      try delta run_D.sl.v155
      try delta run_D.sl.v159
      try delta run_D.sl.HS0_1
      try delta run_D.sl.HS2_1
      try delta run_D.sl.HS3_1
      try delta run_D.sl.HS4_1
      try delta run_D.sl.HS5_1
      try delta run_D.sl.HS2_2
      try delta run_D.sl.HS3_2
      try delta run_D.sl.HS4_2
      try delta run_D.sl.HS5_2
      try delta run_D.sl.v
      try delta run_D.sl.v_1
      try delta run_D.sl.v_2
      try delta run_D.sl.v_3
      try delta run_D.sl.r_16
      try delta run_D.sl.r_15
      try delta run_D.sl.r_14
      try delta run_D.sl.r_13
      try delta run_D.sl.r_12
      try delta run_D.sl.r_11
      try delta run_D.sl.r_10
      try delta run_D.sl.r_9
      try delta run_D.sl.r_8
      try delta run_D.sl.r_7
      try delta run_D.sl.r_6
      try delta run_D.sl.r_5
      try delta run_D.sl.r_4
      try delta run_D.sl.r_3
      try delta run_D.sl.r_2
      try delta run_D.sl.r_1
      try delta run_D.sl.r
      first | refine (View.read_writes_full _ _ _ _ _).trans ?_ | skip
      try rw [View.readCov_full]
      try rw [View.readCov_full]
      try rw [View.readCov_full]
      try rw [View.readCov_full]
      try rw [e0]
      try rw [eC]
      try rw [e1]
      try rw [e2]
      try rw [e3]
      try rw [e4]
      try rw [e5]
      rfl
    isplitl [HS4]
    · iexists _; isplitr; swap; · iexact HS4
      ipureintro
      try delta run_D.sl.v151
      try delta run_D.sl.v152
      try delta run_D.sl.v155
      try delta run_D.sl.v159
      try delta run_D.sl.HS0_1
      try delta run_D.sl.HS2_1
      try delta run_D.sl.HS3_1
      try delta run_D.sl.HS4_1
      try delta run_D.sl.HS5_1
      try delta run_D.sl.HS2_2
      try delta run_D.sl.HS3_2
      try delta run_D.sl.HS4_2
      try delta run_D.sl.HS5_2
      try delta run_D.sl.v
      try delta run_D.sl.v_1
      try delta run_D.sl.v_2
      try delta run_D.sl.v_3
      try delta run_D.sl.r_16
      try delta run_D.sl.r_15
      try delta run_D.sl.r_14
      try delta run_D.sl.r_13
      try delta run_D.sl.r_12
      try delta run_D.sl.r_11
      try delta run_D.sl.r_10
      try delta run_D.sl.r_9
      try delta run_D.sl.r_8
      try delta run_D.sl.r_7
      try delta run_D.sl.r_6
      try delta run_D.sl.r_5
      try delta run_D.sl.r_4
      try delta run_D.sl.r_3
      try delta run_D.sl.r_2
      try delta run_D.sl.r_1
      try delta run_D.sl.r
      first | refine (View.read_writes_full _ _ _ _ _).trans ?_ | skip
      try rw [View.readCov_full]
      try rw [View.readCov_full]
      try rw [View.readCov_full]
      try rw [View.readCov_full]
      try rw [e0]
      try rw [eC]
      try rw [e1]
      try rw [e2]
      try rw [e3]
      try rw [e4]
      try rw [e5]
      rfl
    isplitl [HS5]
    · iexists _; isplitr; swap; · iexact HS5
      ipureintro
      try delta run_D.sl.v151
      try delta run_D.sl.v152
      try delta run_D.sl.v155
      try delta run_D.sl.v159
      try delta run_D.sl.HS0_1
      try delta run_D.sl.HS2_1
      try delta run_D.sl.HS3_1
      try delta run_D.sl.HS4_1
      try delta run_D.sl.HS5_1
      try delta run_D.sl.HS2_2
      try delta run_D.sl.HS3_2
      try delta run_D.sl.HS4_2
      try delta run_D.sl.HS5_2
      try delta run_D.sl.v
      try delta run_D.sl.v_1
      try delta run_D.sl.v_2
      try delta run_D.sl.v_3
      try delta run_D.sl.r_16
      try delta run_D.sl.r_15
      try delta run_D.sl.r_14
      try delta run_D.sl.r_13
      try delta run_D.sl.r_12
      try delta run_D.sl.r_11
      try delta run_D.sl.r_10
      try delta run_D.sl.r_9
      try delta run_D.sl.r_8
      try delta run_D.sl.r_7
      try delta run_D.sl.r_6
      try delta run_D.sl.r_5
      try delta run_D.sl.r_4
      try delta run_D.sl.r_3
      try delta run_D.sl.r_2
      try delta run_D.sl.r_1
      try delta run_D.sl.r
      first | refine (View.read_writes_full _ _ _ _ _).trans ?_ | skip
      try rw [View.readCov_full]
      try rw [View.readCov_full]
      try rw [View.readCov_full]
      try rw [View.readCov_full]
      try rw [e0]
      try rw [eC]
      try rw [e1]
      try rw [e2]
      try rw [e3]
      try rw [e4]
      try rw [e5]
      rfl
    isplitl [Hf0 Hf1 Hf2 Hf3]
    · isplitl [Hf0]; · iexact Hf0
      isplitl [Hf1]; · iexact Hf1
      isplitl [Hf2]; · iexact Hf2
      iexact Hf3
    isplitl [Hs Hf0_src Hf1_src Hf2_src Hf3_src Hr]
    · isplitl [Hs]; · iexact Hs
      iapply (src_split c W (Ring.sl 3 t.val) (Ring.bk 8 t.val)).2
      isplitl [Hf0_src Hf1_src Hf2_src Hf3_src]
      · isplitl [Hf0_src]; · iexact Hf0_src
        isplitl [Hf1_src]; · iexact Hf1_src
        isplitl [Hf2_src]; · iexact Hf2_src
        iexact Hf3_src
      iexact Hr
    iexists _; iexact HW

end Cert.KernelIdeal.Hand

end
-- ==== Proof.Ideal.Body.lean ====
/-
  The pipeline's relational data and its body obligation.
-/
module

public import proofs.«01_k».proof.Proof.Ideal.RunA
public import proofs.«01_k».proof.Proof.Ideal.RunB
public import proofs.«01_k».proof.Proof.Ideal.RunC
public import proofs.«01_k».proof.Proof.Ideal.RunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-- The normalised input's array on a core. -/
def x0c (c : Dev nD) : Vec F S128x2048 .f32 := iblk m c 0 t0_0
/-- The labels on a core, one column. -/
def labc (c : Dev nD) : Vec F S128x1 .i32 := iblk m c 1 t0_0
/-- The embeddings left in place, as the region finds them. -/
def emW (c : Dev nD) : HbBuf0 (F := F) c hbM0_0 := V m c main_arg3
/-- The tail's buffer once the cut block has come in over `d`. -/
def tailOf (c : Dev nD) (d : Vec F S256x2048 .f32) : Vec F S256x2048 .f32 := (cfg0.win 2).fill (grid0.coords t0_0) d (iblk m c 2 t0_0)
/-- The carried state after the tail and the first `k` chunks. -/
def sAt (c : Dev nD) (d : Vec F S256x2048 .f32) (k : ℕ) : St F := stAt c (emW m c) (xsOf (x0c m c)) (tailOf m c d) (labc m c) k

/-- The scratch the body takes whole, before point `k`. -/
def scrAt (c : Dev nD) (k : ℕ) : sProp 𝕄 :=
  if k = 0 then iprop((∃ d, owns (c : Thread nD τ) scM0_0 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d))
  else iprop(∃ d, owns (c : Thread nD τ) scM0_0 fullShare (xsOf (x0c m c)) ∗ owns (c : Thread nD τ) scM0_2 fullShare (sAt m c d k).m ∗ owns (c : Thread nD τ) scM0_3 fullShare (sAt m c d k).s ∗ owns (c : Thread nD τ) scM0_4 fullShare (sAt m c d k).v ∗ owns (c : Thread nD τ) scM0_5 fullShare (sAt m c d k).k)

/-- The region's invariant before point `k`. -/
def PhiR (c : Dev nD) (k : ℕ) : sProp 𝕄 := iprop(scrAt m c k ∗ ringAt c (emW m c) k)

/-- What the body leaves in window `w` at point `t`, having found `Y` there: an input as it was, and at the last point
    the scalar of the final state. -/
def leavesR (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => X = Y
  | ⟨3, _⟩, _, X => t.val = 7 → ∃ d, (X : Vec F S1x1 .f32) = fun _ => outOf (sAt m c d 8)

/-- The relational data of the pipeline on a core: half of the embeddings for the window, the rest for the ring. -/
def rdats (_ : Fin 1) (c : Dev nD) : Pipeline.RDat τ (Elt F) Unit ℕ (Pipeline.UD sig nD τ) ℕ cfg0 c where
  A w := V m c (Pipeline.arrRef spec0 w)
  after w t Y X := leavesR m c w t Y X
  Φ t := PhiR m c t.val
  q w := if w.val = 2 then fullShare.left else fullShare
  owed _ := 0

theorem PhiR_castSucc (c : Dev nD) (t : Fin cfg0.N) : (rdats m 0 c).Φ t.castSucc = PhiR m c t.val := by
  dsimp only [rdats]; simp only [Fin.val_castSucc]
theorem PhiR_succ (c : Dev nD) (t : Fin cfg0.N) : (rdats m 0 c).Φ t.succ = PhiR m c (t.val + 1) := by
  dsimp only [rdats]; simp only [Fin.val_succ]

/-- The input windows' buffers at a point. -/
theorem finds0 (c : Dev nD) (t : Fin cfg0.N) (Y) (h : (rdats m 0 c).Finds 0 t Y) : Y = x0c m c := by
  obtain ⟨d, hd⟩ := (rdats m 0 c).finds_in_eq_fetched 0 rfl (fun _ _ _ => rfl) (fun _ _ _ h => h) t Y h
  exact hd.trans (((rdats m 0 c).fetched_congr 0 (t' := t0_0) rfl rfl d).trans rfl)
theorem finds1 (c : Dev nD) (t : Fin cfg0.N) (Y) (h : (rdats m 0 c).Finds 1 t Y) : Y = labc m c := by
  obtain ⟨d, hd⟩ := (rdats m 0 c).finds_in_eq_fetched 1 rfl (fun _ _ _ => rfl) (fun _ _ _ h => h) t Y h
  exact hd.trans (((rdats m 0 c).fetched_congr 1 (t' := t0_0) rfl rfl d).trans rfl)
theorem finds2 (c : Dev nD) (t : Fin cfg0.N) (Y) (h : (rdats m 0 c).Finds 2 t Y) : ∃ d, Y = tailOf m c d := by
  obtain ⟨d, hd⟩ := (rdats m 0 c).finds_in_eq_fetched 2 rfl (fun _ _ _ => rfl) (fun _ _ _ h => h) t Y h
  refine ⟨d, ?_⟩
  exact hd.trans (((rdats m 0 c).fetched_congr 2 (t' := t0_0) rfl rfl d).trans rfl)

/-- A point's number is its coordinate. -/
theorem coord_val : ∀ t : Fin cfg0.N, (grid0.coords t 0).val = t.val := by decide +kernel

/-- One point's step on the state. -/
theorem sAt_succ (c : Dev nD) (d) (t : Fin cfg0.N) :
    chunkStep (BitVec.ofNat 32 (grid0.coords t 0).val) (xsOf (x0c m c)) (chunkOf c (emW m c) (Ring.bk 8 t.val)) (labc m c) (sAt m c d t.val) = sAt m c d (t.val + 1) := by
  rw [coord_val t]; rfl

/-- What the body is called with at a point, the windows one by one, -/
def bodyPre (c : Dev nD) (t : Fin cfg0.N) (Y : (w : Fin cfg0.W) → (cfg0.win w).block.Idx → Elt F (cfg0.win w).elt) : sProp 𝕄 :=
  iprop((rdats m 0 c).Φ t.castSucc ∗ (rdats m 0 c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3))

/-- and what it returns. -/
def bodyPost (c : Dev nD) (t : Fin cfg0.N) (Y : (w : Fin cfg0.W) → (cfg0.win w).block.Idx → Elt F (cfg0.win w).elt) : sProp 𝕄 :=
  iprop((rdats m 0 c).Φ t.succ ∗ (rdats m 0 c).owesAt () t.succ
    ∗ (∃ X, ⌜(rdats m 0 c).after 0 t (Y 0) X⌝ ∗ owns (c : Thread nD τ) (ms0_0 t) fullShare X)
    ∗ (∃ X, ⌜(rdats m 0 c).after 1 t (Y 1) X⌝ ∗ owns (c : Thread nD τ) (ms0_1 t) fullShare X)
    ∗ (∃ X, ⌜(rdats m 0 c).after 2 t (Y 2) X⌝ ∗ owns (c : Thread nD τ) (ms0_2 t) fullShare X)
    ∗ (∃ X, ⌜(rdats m 0 c).after 3 t (Y 3) X⌝ ∗ owns (c : Thread nD τ) (ms0_3 t) fullShare X))

set_option maxHeartbeats 3200000 in
/-- The body at a point of kind A. -/
theorem sound_A (c : Dev nD) (t : Fin cfg0.N) (hc0 : cond0_0 (grid0.coords t)) (hc1 : cond0_1 (grid0.coords t)) (hc2 : ¬cond0_2 (grid0.coords t)) (Y) (hY : ∀ w, (rdats m 0 c).Finds w t (Y w)) :
    bodyPre m c t Y ⊢ wp frame (wpE (defs₀ (F := F)) Variants.none c none) Set.univ (bodyAt0 t) (fun _ => bodyPost m c t Y) := by
  have hN : t.val < 8 := lt_of_lt_of_eq t.isLt (show cfg0.N = 8 from N_0)
  have hk0 : t.val = 0 := (hcond0_0 t).mp hc0
  have hk7 : ¬t.val = 7 := fun h => hc2 ((hcond0_2 t).mpr h)
  have e0 := finds0 m c t (Y 0) (hY 0)
  have e1 := finds1 m c t (Y 1) (hY 1)
  obtain ⟨d2, e2⟩ := finds2 m c t (Y 2) (hY 2)
  unfold bodyPre bodyPost bodyAt0
  rw [PhiR_castSucc m c t, PhiR_succ m c t]
  unfold Pipeline.RDat.owesAt Pipeline.owesWithin
  rw [show (rdats m 0 c).owed t.castSucc = 0 from rfl, show (rdats m 0 c).owed t.succ = 0 from rfl]
  unfold PhiR ringAt scrAt
  rw [if_pos hk0, if_neg (show ¬t.val + 1 = 0 by omega), if_pos hk0, if_neg (show ¬t.val + 1 = 0 by omega)]
  rw [Ring.At₀_eq3' _ _ _ t.val hk0 (by decide : 3 ≤ 8), Ring.At3_one' _ _ _ _ t.val hk0 (by decide : 3 ≤ 8)]
  simp only [Ring.free, Ring.inflight]
  iintro ⟨⟨⟨HS0, HS2, HS3, HS4, HS5⟩, ⟨-, ⟨Hc0, ⟨%fa, Hs0⟩⟩, ⟨Hc1, ⟨%fb, Hs1⟩⟩, ⟨Hc2, ⟨%fc, Hs2⟩⟩⟩⟩, ⟨%Wt, -, HW⟩, H0, H1, H2, H3⟩
  have hrun := run_A c t (ms0_0 t) (hs0_0 t) (ms0_1 t) (hs0_1 t) (ms0_2 t) (hs0_2 t) (ms0_3 t) (hs0_3 t) hc0 hc1 hc2 (x0c m c) (labc m c) (tailOf m c d2) (emW m c) fa fb fc
  rw [show tailStep (xsOf (x0c m c)) (tailOf m c d2) (labc m c) st0 = sAt m c d2 t.val from by rw [hk0]; rfl, sAt_succ m c d2 t] at hrun
  iapply (hrun Wt _)
  isplitl [H0]; · iapply (Entails.of_eq (congrArg (fun x => owns (c : Thread nD τ) (ms0_0 t) fullShare x) e0)); iexact H0
  isplitl [H1]; · iapply (Entails.of_eq (congrArg (fun x => owns (c : Thread nD τ) (ms0_1 t) fullShare x) e1)); iexact H1
  isplitl [H2]; · iapply (Entails.of_eq (congrArg (fun x => owns (c : Thread nD τ) (ms0_2 t) fullShare x) e2)); iexact H2
  isplitl [HS0]; · iexact HS0
  isplitl [HS2]; · iexact HS2
  isplitl [HS3]; · iexact HS3
  isplitl [HS4]; · iexact HS4
  isplitl [HS5]; · iexact HS5
  isplitl [Hc0]; · iexact Hc0
  isplitl [Hs0]; · iexact Hs0
  isplitl [Hc1]; · iexact Hc1
  isplitl [Hs1]; · iexact Hs1
  isplitl [Hc2]; · iexact Hc2
  isplitl [Hs2]; · iexact Hs2
  isplitl [HW]; · iexact HW
  iintro ⟨H0, H1, H2, HS0, HS2, HS3, HS4, HS5, Hfb, Hfc, Hc0', Hs0', ⟨%W', HW'⟩⟩
  isplitl [HS0 HS2 HS3 HS4 HS5 Hfb Hfc Hc0' Hs0']
  · isplitl [HS0 HS2 HS3 HS4 HS5]
    · iexists d2
      isplitl [HS0]; · iexact HS0
      isplitl [HS2]; · iexact HS2
      isplitl [HS3]; · iexact HS3
      isplitl [HS4]; · iexact HS4
      iexact HS5
    iapply (Ring.with_homes (Idealize.SL.BI.Entails.refl _))
    isplitl [Hfb]; · iexists _; iexact Hfb
    isplitl [Hfc]; · iexists _; iexact Hfc
    isplitl [Hc0']; · iexact Hc0'
    iexists _; iexact Hs0'
  isplitl [HW']
  · iexists W'; isplitr; · ipureintro; exact fun _ _ => Or.inl trivial
    iexact HW'
  isplitl [H0]
  · iexists (Y 0); isplitr; · ipureintro; exact rfl
    iapply (Entails.of_eq (congrArg (fun x => owns (c : Thread nD τ) (ms0_0 t) fullShare x) e0.symm)); iexact H0
  isplitl [H1]
  · iexists (Y 1); isplitr; · ipureintro; exact rfl
    iapply (Entails.of_eq (congrArg (fun x => owns (c : Thread nD τ) (ms0_1 t) fullShare x) e1.symm)); iexact H1
  isplitl [H2]
  · iexists (Y 2); isplitr; · ipureintro; exact rfl
    iapply (Entails.of_eq (congrArg (fun x => owns (c : Thread nD τ) (ms0_2 t) fullShare x) e2.symm)); iexact H2
  iexists (Y 3); isplitr; · ipureintro; exact fun h => absurd h hk7
  iexact H3

set_option maxHeartbeats 3200000 in
/-- The body at a point of kind B. -/
theorem sound_B (c : Dev nD) (t : Fin cfg0.N) (hc0 : ¬cond0_0 (grid0.coords t)) (hc1 : cond0_1 (grid0.coords t)) (hc2 : ¬cond0_2 (grid0.coords t)) (Y) (hY : ∀ w, (rdats m 0 c).Finds w t (Y w)) :
    bodyPre m c t Y ⊢ wp frame (wpE (defs₀ (F := F)) Variants.none c none) Set.univ (bodyAt0 t) (fun _ => bodyPost m c t Y) := by
  have hN : t.val < 8 := lt_of_lt_of_eq t.isLt (show cfg0.N = 8 from N_0)
  have hk0 : ¬t.val = 0 := fun h => hc0 ((hcond0_0 t).mpr h)
  have hk1 : t.val + 2 < 8 := by have := (hcond0_1 t).mp hc1; omega
  have hk7 : ¬t.val = 7 := fun h => hc2 ((hcond0_2 t).mpr h)
  have e0 := finds0 m c t (Y 0) (hY 0)
  have e1 := finds1 m c t (Y 1) (hY 1)
  obtain ⟨d2, e2⟩ := finds2 m c t (Y 2) (hY 2)
  unfold bodyPre bodyPost bodyAt0
  rw [PhiR_castSucc m c t, PhiR_succ m c t]
  unfold Pipeline.RDat.owesAt Pipeline.owesWithin
  rw [show (rdats m 0 c).owed t.castSucc = 0 from rfl, show (rdats m 0 c).owed t.succ = 0 from rfl]
  unfold PhiR ringAt scrAt
  rw [if_neg hk0, if_neg (show ¬t.val + 1 = 0 by omega), if_neg hk0, if_neg (show ¬t.val + 1 = 0 by omega)]
  rw [Ring.At3_here _ _ _ _ t.val hk1, Ring.At3_next _ _ _ _ t.val hk1, Ring.slotAt3_next0 _ _ _ t.val (by omega), Ring.slotAt3_next1 _ _ _ t.val hk1]
  simp only [Ring.free, Ring.inflight]
  iintro ⟨⟨⟨%d, HS0, HS2, HS3, HS4, HS5⟩, ⟨-, ⟨%f', Hf0⟩, Hf1, ⟨Hc2, ⟨%fc, Hs2⟩⟩⟩⟩, ⟨%Wt, -, HW⟩, H0, H1, H2, H3⟩
  have hrun := run_B c t (ms0_0 t) (hs0_0 t) (ms0_1 t) (hs0_1 t) (ms0_2 t) (hs0_2 t) (ms0_3 t) (hs0_3 t) hc0 hc1 hc2 (labc m c) (xsOf (x0c m c)) (sAt m c d t.val) (emW m c) f' fc
  rw [sAt_succ m c d t] at hrun
  iapply (hrun Wt _)
  isplitl [H1]; · iapply (Entails.of_eq (congrArg (fun x => owns (c : Thread nD τ) (ms0_1 t) fullShare x) e1)); iexact H1
  isplitl [HS0]; · iexact HS0
  isplitl [HS2]; · iexact HS2
  isplitl [HS3]; · iexact HS3
  isplitl [HS4]; · iexact HS4
  isplitl [HS5]; · iexact HS5
  isplitl [Hf0]; · iexact Hf0
  isplitl [Hc2]; · iexact Hc2
  isplitl [Hs2]; · iexact Hs2
  isplitl [HW]; · iexact HW
  iintro ⟨H1, HS0, HS2, HS3, HS4, HS5, Hfc, Hc0', Hs0', ⟨%W', HW'⟩⟩
  isplitl [HS0 HS2 HS3 HS4 HS5 Hf1 Hfc Hc0' Hs0']
  · isplitl [HS0 HS2 HS3 HS4 HS5]
    · iexists d
      isplitl [HS0]; · iexact HS0
      isplitl [HS2]; · iexact HS2
      isplitl [HS3]; · iexact HS3
      isplitl [HS4]; · iexact HS4
      iexact HS5
    iapply (Ring.with_homes (Idealize.SL.BI.Entails.refl _))
    isplitl [Hf1]; · iexact Hf1
    isplitl [Hfc]; · iexists _; iexact Hfc
    isplitl [Hc0']; · iexact Hc0'
    iexists _; iexact Hs0'
  isplitl [HW']
  · iexists W'; isplitr; · ipureintro; exact fun _ _ => Or.inl trivial
    iexact HW'
  isplitl [H0]
  · iexists (Y 0); isplitr; · ipureintro; exact rfl
    iexact H0
  isplitl [H1]
  · iexists (Y 1); isplitr; · ipureintro; exact rfl
    iapply (Entails.of_eq (congrArg (fun x => owns (c : Thread nD τ) (ms0_1 t) fullShare x) e1.symm)); iexact H1
  isplitl [H2]
  · iexists (Y 2); isplitr; · ipureintro; exact rfl
    iexact H2
  iexists (Y 3); isplitr; · ipureintro; exact fun h => absurd h hk7
  iexact H3

set_option maxHeartbeats 3200000 in
/-- The body at a point of kind C. -/
theorem sound_C (c : Dev nD) (t : Fin cfg0.N) (hc0 : ¬cond0_0 (grid0.coords t)) (hc1 : ¬cond0_1 (grid0.coords t)) (hc2 : ¬cond0_2 (grid0.coords t)) (Y) (hY : ∀ w, (rdats m 0 c).Finds w t (Y w)) :
    bodyPre m c t Y ⊢ wp frame (wpE (defs₀ (F := F)) Variants.none c none) Set.univ (bodyAt0 t) (fun _ => bodyPost m c t Y) := by
  have hN : t.val < 8 := lt_of_lt_of_eq t.isLt (show cfg0.N = 8 from N_0)
  have hk0 : ¬t.val = 0 := fun h => hc0 ((hcond0_0 t).mpr h)
  have hk1 : 8 ≤ t.val + 2 := by have : ¬t.val < 6 := fun h => hc1 ((hcond0_1 t).mpr h); omega
  have hk7 : ¬t.val = 7 := fun h => hc2 ((hcond0_2 t).mpr h)
  have e0 := finds0 m c t (Y 0) (hY 0)
  have e1 := finds1 m c t (Y 1) (hY 1)
  obtain ⟨d2, e2⟩ := finds2 m c t (Y 2) (hY 2)
  unfold bodyPre bodyPost bodyAt0
  rw [PhiR_castSucc m c t, PhiR_succ m c t]
  unfold Pipeline.RDat.owesAt Pipeline.owesWithin
  rw [show (rdats m 0 c).owed t.castSucc = 0 from rfl, show (rdats m 0 c).owed t.succ = 0 from rfl]
  unfold PhiR ringAt scrAt
  rw [if_neg hk0, if_neg (show ¬t.val + 1 = 0 by omega), if_neg hk0, if_neg (show ¬t.val + 1 = 0 by omega)]
  rw [Ring.At3_here_tail _ _ _ _ t.val hN, Ring.At3_next_tail _ _ _ _ t.val hk1 hN, Ring.slotAt3_tail_role _ _ _ t.val]
  simp only [Ring.free, Ring.inflight]
  iintro ⟨⟨⟨%d, HS0, HS2, HS3, HS4, HS5⟩, ⟨-, ⟨%f', Hf0⟩, Hf1, Hf2⟩⟩, ⟨%Wt, -, HW⟩, H0, H1, H2, H3⟩
  have hrun := run_C c t (ms0_0 t) (hs0_0 t) (ms0_1 t) (hs0_1 t) (ms0_2 t) (hs0_2 t) (ms0_3 t) (hs0_3 t) hc0 hc1 hc2 (labc m c) (xsOf (x0c m c)) (sAt m c d t.val) (emW m c) f'
  rw [sAt_succ m c d t] at hrun
  iapply (hrun Wt _)
  isplitl [H1]; · iapply (Entails.of_eq (congrArg (fun x => owns (c : Thread nD τ) (ms0_1 t) fullShare x) e1)); iexact H1
  isplitl [HS0]; · iexact HS0
  isplitl [HS2]; · iexact HS2
  isplitl [HS3]; · iexact HS3
  isplitl [HS4]; · iexact HS4
  isplitl [HS5]; · iexact HS5
  isplitl [Hf0]; · iexact Hf0
  isplitl [HW]; · iexact HW
  iintro ⟨H1, HS0, HS2, HS3, HS4, HS5, Hc0', Hs0', ⟨%W', HW'⟩⟩
  isplitl [HS0 HS2 HS3 HS4 HS5 Hf1 Hf2 Hc0' Hs0']
  · isplitl [HS0 HS2 HS3 HS4 HS5]
    · iexists d
      isplitl [HS0]; · iexact HS0
      isplitl [HS2]; · iexact HS2
      isplitl [HS3]; · iexact HS3
      isplitl [HS4]; · iexact HS4
      iexact HS5
    iapply (Ring.with_homes (Idealize.SL.BI.Entails.refl _))
    isplitl [Hf1]; · iexact Hf1
    isplitl [Hf2]; · iexact Hf2
    isplitl [Hc0']; · iexact Hc0'
    iexists _; iexact Hs0'
  isplitl [HW']
  · iexists W'; isplitr; · ipureintro; exact fun _ _ => Or.inl trivial
    iexact HW'
  isplitl [H0]
  · iexists (Y 0); isplitr; · ipureintro; exact rfl
    iexact H0
  isplitl [H1]
  · iexists (Y 1); isplitr; · ipureintro; exact rfl
    iapply (Entails.of_eq (congrArg (fun x => owns (c : Thread nD τ) (ms0_1 t) fullShare x) e1.symm)); iexact H1
  isplitl [H2]
  · iexists (Y 2); isplitr; · ipureintro; exact rfl
    iexact H2
  iexists (Y 3); isplitr; · ipureintro; exact fun h => absurd h hk7
  iexact H3

set_option maxHeartbeats 3200000 in
/-- The body at a point of kind D. -/
theorem sound_D (c : Dev nD) (t : Fin cfg0.N) (hc0 : ¬cond0_0 (grid0.coords t)) (hc1 : ¬cond0_1 (grid0.coords t)) (hc2 : cond0_2 (grid0.coords t)) (Y) (hY : ∀ w, (rdats m 0 c).Finds w t (Y w)) :
    bodyPre m c t Y ⊢ wp frame (wpE (defs₀ (F := F)) Variants.none c none) Set.univ (bodyAt0 t) (fun _ => bodyPost m c t Y) := by
  have hN : t.val < 8 := lt_of_lt_of_eq t.isLt (show cfg0.N = 8 from N_0)
  have hk0 : ¬t.val = 0 := fun h => hc0 ((hcond0_0 t).mpr h)
  have hk1 : 8 ≤ t.val + 2 := by have : ¬t.val < 6 := fun h => hc1 ((hcond0_1 t).mpr h); omega
  have hk7 : t.val = 7 := (hcond0_2 t).mp hc2
  have e0 := finds0 m c t (Y 0) (hY 0)
  have e1 := finds1 m c t (Y 1) (hY 1)
  obtain ⟨d2, e2⟩ := finds2 m c t (Y 2) (hY 2)
  unfold bodyPre bodyPost bodyAt0
  rw [PhiR_castSucc m c t, PhiR_succ m c t]
  unfold Pipeline.RDat.owesAt Pipeline.owesWithin
  rw [show (rdats m 0 c).owed t.castSucc = 0 from rfl, show (rdats m 0 c).owed t.succ = 0 from rfl]
  unfold PhiR ringAt scrAt
  rw [if_neg hk0, if_neg (show ¬t.val + 1 = 0 by omega), if_neg hk0, if_neg (show ¬t.val + 1 = 0 by omega)]
  rw [Ring.At3_here_tail _ _ _ _ t.val hN, Ring.At3_next_tail _ _ _ _ t.val hk1 hN, Ring.slotAt3_tail_role _ _ _ t.val]
  simp only [Ring.free, Ring.inflight]
  iintro ⟨⟨⟨%d, HS0, HS2, HS3, HS4, HS5⟩, ⟨-, ⟨%f', Hf0⟩, Hf1, Hf2⟩⟩, ⟨%Wt, -, HW⟩, H0, H1, H2, H3⟩
  have hrun := run_D c t (ms0_0 t) (hs0_0 t) (ms0_1 t) (hs0_1 t) (ms0_2 t) (hs0_2 t) (ms0_3 t) (hs0_3 t) hc0 hc1 hc2 (labc m c) (xsOf (x0c m c)) (sAt m c d t.val) (emW m c) f'
  rw [sAt_succ m c d t] at hrun
  iapply (hrun Wt _)
  isplitl [H1]; · iapply (Entails.of_eq (congrArg (fun x => owns (c : Thread nD τ) (ms0_1 t) fullShare x) e1)); iexact H1
  isplitl [H3]; · iexists _; iexact H3
  isplitl [HS0]; · iexact HS0
  isplitl [HS2]; · iexact HS2
  isplitl [HS3]; · iexact HS3
  isplitl [HS4]; · iexact HS4
  isplitl [HS5]; · iexact HS5
  isplitl [Hf0]; · iexact Hf0
  isplitl [HW]; · iexact HW
  iintro ⟨H1, H3, HS0, HS2, HS3, HS4, HS5, Hc0', Hs0', ⟨%W', HW'⟩⟩
  isplitl [HS0 HS2 HS3 HS4 HS5 Hf1 Hf2 Hc0' Hs0']
  · isplitl [HS0 HS2 HS3 HS4 HS5]
    · iexists d
      isplitl [HS0]; · iexact HS0
      isplitl [HS2]; · iexact HS2
      isplitl [HS3]; · iexact HS3
      isplitl [HS4]; · iexact HS4
      iexact HS5
    iapply (Ring.with_homes (Idealize.SL.BI.Entails.refl _))
    isplitl [Hf1]; · iexact Hf1
    isplitl [Hf2]; · iexact Hf2
    isplitl [Hc0']; · iexact Hc0'
    iexists _; iexact Hs0'
  isplitl [HW']
  · iexists W'; isplitr; · ipureintro; exact fun _ _ => Or.inl trivial
    iexact HW'
  isplitl [H0]
  · iexists (Y 0); isplitr; · ipureintro; exact rfl
    iexact H0
  isplitl [H1]
  · iexists (Y 1); isplitr; · ipureintro; exact rfl
    iapply (Entails.of_eq (congrArg (fun x => owns (c : Thread nD τ) (ms0_1 t) fullShare x) e1.symm)); iexact H1
  isplitl [H2]
  · iexists (Y 2); isplitr; · ipureintro; exact rfl
    iexact H2
  iexists (fun _ => outOf (sAt m c d (t.val + 1))); isplitr; · ipureintro; exact fun _ => ⟨d, by rw [hk7]⟩
  iexact H3

/-- The body at any point. -/
theorem sound_body (c : Dev nD) (t : Fin cfg0.N) (Y) (hY : ∀ w, (rdats m 0 c).Finds w t (Y w)) :
    bodyPre m c t Y ⊢ wp frame (wpE (defs₀ (F := F)) Variants.none c none) Set.univ (bodyAt0 t) (fun _ => bodyPost m c t Y) := by
  by_cases h0 : cond0_0 (grid0.coords t)
  · have h0' := (hcond0_0 t).mp h0
    exact sound_A m c t h0 ((hcond0_1 t).mpr (by omega)) (fun h => by have := (hcond0_2 t).mp h; omega) Y hY
  · by_cases h1 : cond0_1 (grid0.coords t)
    · have h1' := (hcond0_1 t).mp h1
      exact sound_B m c t h0 h1 (fun h => by have := (hcond0_2 t).mp h; omega) Y hY
    · by_cases h2 : cond0_2 (grid0.coords t)
      · exact sound_D m c t h0 h1 h2 Y hY
      · exact sound_C m c t h0 h1 h2 Y hY

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdats (F := F) m 0 c).BodyObligation (defs₀ (F := F)) Variants.none () Set.univ := fun t Y hY => by
  rw [bigSep_W0, bigSep_W0, defs₀_row]
  exact triple_restated (sound_body m c t Y hY) rfl .rfl fun _ => .rfl

end Cert.KernelIdeal.Hand

end
-- ==== Proof.Ideal.Launch.lean ====
/-
  The launch: @main as a reshape, the kernel's region and a reshape; every run ends with the arguments as they were
  and the result at the scalar of the final state.
-/
module

public import proofs.«01_k».proof.Proof.Ideal.Body
public import Idealize.ShloMosaic.Lib.Pipeline.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

abbrev EP : Emb (UR sig nD τ) (MT nD τ sig Unit (Elt F) ℕ (Pipeline.UD sig nD τ) ℕ) := embL

/-- A core's buffers at launch. -/
abbrev Vl (c : Dev nD) : Valuation τ sig (Elt F) := fun b => m (c, b)
/-- The scalar a run over tail padding `d` leaves. -/
abbrev resOf (c : Dev nD) (d : Vec F S256x2048 .f32) : Vec F S1x1 .f32 := fun _ => outOf (sAt m c d 8)
/-- A core's buffers after the region. -/
def Vo (c : Dev nD) (d : Vec F S256x2048 .f32) : Valuation τ sig (Elt F) :=
  Function.update (V0 m c) (Proc.devRef .tc main_call0_v1) (resOf m c d)

theorem Vo_ne (c : Dev nD) (d) (b : Ref sig .tc) (h : b ≠ main_call0_v1) : Vo m c d (Proc.devRef .tc b) = V m c b :=
  Function.update_of_ne (StableHlo.devRef_ne_of_ne h) _ _
theorem Vo_out (c : Dev nD) (d) : Vo m c d (Proc.devRef .tc main_call0_v1) = resOf m c d := Function.update_self _ _ _

/-- A core's buffers at the end. -/
abbrev Ve (c : Dev nD) (d : Vec F S256x2048 .f32) : Valuation τ sig (Elt F) := StableHlo.after hostOps1 (Vo m c d)

theorem Ve_ne (c : Dev nD) (d) (b : Ref sig .tc) (h : b ≠ main_v0) : Ve m c d (Proc.devRef .tc b) = Vo m c d (Proc.devRef .tc b) :=
  StableHlo.after_of_forall_not_mem (b := Proc.devRef .tc b) hostOps1 (Vo m c d) (by
    intro op hop
    simp only [hostOps1, List.mem_cons, List.mem_nil_iff, or_false] at hop
    rcases hop with rfl
    simp only [StableHlo.TRef.reshape, StableHlo.reshape_writes, Finset.mem_singleton]
    exact StableHlo.devRef_ne_of_ne h)
theorem Ve_res (c : Dev nD) (d) : Ve m c d (Proc.devRef .tc main_v0) = (fun _ => outOf (sAt m c d 8) : Vec F S_ .f32) := by
  show StableHlo.after hostOps1 (Vo m c d) (Proc.devRef .tc main_v0) = _
  refine (show _ = _ from StableHlo.reshape_result main_call0_v1 main_v0 rfl shapeCasts_S1x1_S_ (by decide) (by decide) (Vo m c d)).trans ?_
  funext i
  have h := Vo_out m c d
  show shapeCast _ (Vo m c d (Proc.devRef .tc main_call0_v1)) _ i = _
  rw [h]; rfl

/-! ## The output array -/

/-- A one by one array has one index. -/
theorem one_idx (a b : S1x1.Idx) : a = b := funext fun k => by
  match k with
  | ⟨0, _⟩ => exact Subsingleton.elim (α := Fin 1) _ _
  | ⟨1, _⟩ => exact Subsingleton.elim (α := Fin 1) _ _

theorem arr_out (c : Dev nD) (G) (h : (rdats m 0 c).ArrAt 3 cfg0.N G) : ∃ d, (G : Vec F S1x1 .f32) = resOf m c d := by
  have h8 : (rdats m 0 c).ArrAt 3 (7 + 1) G := h
  have hN : 7 < cfg0.N := by rw [show cfg0.N = 8 from N_0]; decide
  have hf : (cfg0.win 3).flush ⟨7, hN⟩ = true := (flush0_3 ⟨7, hN⟩).mpr rfl
  unfold Pipeline.RDat.ArrAt at h8
  rw [dif_pos hN, if_pos hf] at h8
  obtain ⟨G₀, X, -, ⟨Y, -, hX⟩, hG⟩ := h8
  obtain ⟨d, hd⟩ := (hX : (7 : ℕ) = 7 → ∃ d, (X : Vec F S1x1 .f32) = fun _ => outOf (sAt m c d 8)) rfl
  refine ⟨d, ?_⟩
  rw [hG]
  funext i
  have hi : i = ((cfg0.win 3).blk ⟨7, hN⟩).view.emb (ValueIdx.ix2 (0 : Fin 1) (0 : Fin 1)) := one_idx _ _
  rw [hi]
  refine (View.write_emb_of_mem _ _ (Finset.mem_univ _)).trans ?_
  exact congrFun hd _

/-! ## The kernel's own cells -/

/-- The kernel's own semaphores: the ring's cells. -/
abbrev osem (k : Fin 3 × Fin 4) : SemLoc sig := cellR k.1 k.2
theorem ownSemFacts : Pipeline.OwnSemFacts spec0 osem := by decide

theorem ownSems0_eq (c : Dev nD) :
    (Pipeline.ownSems0 (Ix := Unit) (Name := ℕ) (U := Pipeline.UD sig nD τ) (Lvl := ℕ) (Val := Elt F) (τ := τ) osem c : sProp 𝕄)
      = iprop(cellP c 0 0 ∗ cellP c 0 1 ∗ cellP c 0 2 ∗ cellP c 0 3 ∗ cellP c 1 0 ∗ cellP c 1 1 ∗ cellP c 1 2 ∗ cellP c 1 3 ∗ cellP c 2 0 ∗ cellP c 2 1 ∗ cellP c 2 2 ∗ cellP c 2 3) :=
  Pipeline.ownSems0_eq_of_list c osem [(0, 0), (0, 1), (0, 2), (0, 3), (1, 0), (1, 1), (1, 2), (1, 3), (2, 0), (2, 1), (2, 2), (2, 3)] (by decide) (by decide)

/-- Into the invariant before the first point. -/
theorem phi_in (c : Dev nD) :
    iprop(((((c : Thread nD τ).loc main_arg3) ↦[Finset.univ]{fullShare.right} (emW m c)) ∗ Pipeline.ownSems0 osem c) ∗ Pipeline.scopedRest spec0 c : sProp 𝕄)
      ⊢ PhiR m c 0 := by
  unfold PhiR scrAt
  rw [if_pos rfl, ownSems0_eq, scopedRest0_eq]
  iintro ⟨⟨HW, H00, H01, H02, H03, H10, H11, H12, H13, H20, H21, H22, H23⟩, ⟨%f0, HS0⟩, ⟨%f1, HS1⟩, ⟨%f2, HS2⟩, ⟨%f3, HS3⟩, ⟨%f4, HS4⟩, ⟨%f5, HS5⟩⟩
  isplitl [HS0 HS2 HS3 HS4 HS5]
  · simp only [owns_whole_eq]
    isplitl [HS0]; · iexists f0, f0; isplitr; · ipureintro; rfl
                     iexact HS0
    isplitl [HS2]; · iexists f2, f2; isplitr; · ipureintro; rfl
                     iexact HS2
    isplitl [HS3]; · iexists f3, f3; isplitr; · ipureintro; rfl
                     iexact HS3
    isplitl [HS4]; · iexists f4, f4; isplitr; · ipureintro; rfl
                     iexact HS4
    iexists f5, f5; isplitr; · ipureintro; rfl
    iexact HS5
  iapply (ring_in (F := F) c (emW m c))
  isplitl [HS1]
  · simp only [owns_whole_eq]
    iexists f1, f1; isplitr; · ipureintro; rfl
    iexact HS1
  isplitr [HW]
  · isplitl [H00 H01 H02 H03]
    · isplitl [H00]; · iexact H00
      isplitl [H01]; · iexact H01
      isplitl [H02]; · iexact H02
      iexact H03
    isplitl [H10 H11 H12 H13]
    · isplitl [H10]; · iexact H10
      isplitl [H11]; · iexact H11
      isplitl [H12]; · iexact H12
      iexact H13
    isplitl [H20]; · iexact H20
    isplitl [H21]; · iexact H21
    isplitl [H22]; · iexact H22
    iexact H23
  iexact HW

/-- Out of the invariant after the last point. -/
theorem phi_out (c : Dev nD) : (PhiR m c 8 : sProp 𝕄)
      ⊢ iprop((((c : Thread nD τ).loc main_arg3) ↦[Finset.univ]{fullShare.right} (emW m c)) ∗ Pipeline.ownSems0 osem c ∗ Pipeline.scopedRest spec0 c) := by
  unfold PhiR scrAt
  rw [if_neg (by decide), ownSems0_eq, scopedRest0_eq]
  iintro ⟨⟨%d, HS0, HS2, HS3, HS4, HS5⟩, Hr⟩
  ihave Hr' := (ring_out (F := F) c (emW m c)) $$ Hr
  icases Hr' with ⟨⟨%d1, HS1⟩, ⟨⟨H00, H01, H02, H03⟩, ⟨H10, H11, H12, H13⟩, H20, H21, H22, H23⟩, HW⟩
  isplitl [HW]; · iexact HW
  isplitl [H00 H01 H02 H03 H10 H11 H12 H13 H20 H21 H22 H23]
  · isplitl [H00]; · iexact H00
    isplitl [H01]; · iexact H01
    isplitl [H02]; · iexact H02
    isplitl [H03]; · iexact H03
    isplitl [H10]; · iexact H10
    isplitl [H11]; · iexact H11
    isplitl [H12]; · iexact H12
    isplitl [H13]; · iexact H13
    isplitl [H20]; · iexact H20
    isplitl [H21]; · iexact H21
    isplitl [H22]; · iexact H22
    iexact H23
  simp only [owns_whole_eq]
  icases HS0 with ⟨%f0, -, HS0⟩
  icases HS1 with ⟨%f1, -, HS1⟩
  icases HS2 with ⟨%f2, -, HS2⟩
  icases HS3 with ⟨%f3, -, HS3⟩
  icases HS4 with ⟨%f4, -, HS4⟩
  icases HS5 with ⟨%f5, -, HS5⟩
  isplitl [HS0]; · iexists f0; iexact HS0
  isplitl [HS1]; · iexists f1; iexact HS1
  isplitl [HS2]; · iexists f2; iexact HS2
  isplitl [HS3]; · iexists f3; iexact HS3
  isplitl [HS4]; · iexists f4; iexact HS4
  iexists f5; iexact HS5

/-! ## The arrays -/

/-- A core's unscoped buffers, listed. -/
theorem bufs_eq (c : Dev nD) (W : (b : Ref sig .tc) → Buf (Elt F) ((c : Thread nD τ).loc b)) :
    (unscopedBufs c W : sProp 𝕄) = iprop(((((c : Thread nD τ).loc main_arg0) ↦{fullShare} W main_arg0) ∗ (((c : Thread nD τ).loc main_call0_v0) ↦{fullShare} W main_call0_v0) ∗ (((c : Thread nD τ).loc main_arg3) ↦{fullShare} W main_arg3) ∗ (((c : Thread nD τ).loc main_call0_v1) ↦{fullShare} W main_call0_v1))
      ∗ (((c : Thread nD τ).loc main_arg1) ↦{fullShare} W main_arg1) ∗ (((c : Thread nD τ).loc main_arg2) ↦{fullShare} W main_arg2) ∗ (((c : Thread nD τ).loc main_v0) ↦{fullShare} W main_v0)) := by
  rw [← unscopedRest0_eq c W, Pipeline.unscopedBufs_split cfgs 0 launch0.win.arr_unscoped launch0.win.arr_inj c W]
  exact congrArg (fun P : sProp 𝕄 => iprop(P ∗ Pipeline.unscopedRest spec0 c W)) (bigSep_W0 _)

/-- The pipeline's arrays, listed. -/
theorem arrays_list (c : Dev nD) (G : (w : Fin cfg0.W) → Buf (Elt F) ((cfg0.win w).arr.view.loc (c : Thread nD τ))) :
    ((rdats m 0 c).arrays G : sProp 𝕄) = iprop((((c : Thread nD τ).loc main_arg0) ↦{fullShare} G 0) ∗ (((c : Thread nD τ).loc main_call0_v0) ↦{fullShare} G 1) ∗ (((c : Thread nD τ).loc main_arg3) ↦{fullShare.left} G 2) ∗ (((c : Thread nD τ).loc main_call0_v1) ↦{fullShare} G 3)) := by
  unfold Pipeline.RDat.arrays
  rw [show (fun w : Fin cfg0.W => ((cfg0.win w).arr.view.loc (c : Thread nD τ) ↦[(cfg0.win w).arr.view.set]{(rdats m 0 c).share w} G w : sProp 𝕄))
    = (fun w : Fin 4 => ((cfg0.win w).arr.view.loc (c : Thread nD τ) ↦[Finset.univ]{(rdats m 0 c).share w} G w : sProp 𝕄)) from
      funext fun w => by rw [(launch0.arr_whole w).set_eq_univ]]
  exact bigSep_W0 _

theorem arraysAt_list (c : Dev nD) (n : ℕ) :
    ((rdats m 0 c).arraysAt n : sProp 𝕄) = iprop((∃ G, ⌜(rdats m 0 c).ArrAt 0 n G⌝ ∗ (((c : Thread nD τ).loc main_arg0) ↦{fullShare} G)) ∗ (∃ G, ⌜(rdats m 0 c).ArrAt 1 n G⌝ ∗ (((c : Thread nD τ).loc main_call0_v0) ↦{fullShare} G)) ∗ (∃ G, ⌜(rdats m 0 c).ArrAt 2 n G⌝ ∗ (((c : Thread nD τ).loc main_arg3) ↦{fullShare.left} G)) ∗ (∃ G, ⌜(rdats m 0 c).ArrAt 3 n G⌝ ∗ (((c : Thread nD τ).loc main_call0_v1) ↦{fullShare} G))) := by
  unfold Pipeline.RDat.arraysAt
  rw [show (fun w : Fin cfg0.W => iprop(∃ G, ⌜(rdats m 0 c).ArrAt w n G⌝ ∗ ((cfg0.win w).arr.view.loc (c : Thread nD τ) ↦[(cfg0.win w).arr.view.set]{(rdats m 0 c).share w} G : sProp 𝕄)))
    = (fun w : Fin 4 => iprop(∃ G, ⌜(rdats m 0 c).ArrAt w n G⌝ ∗ ((cfg0.win w).arr.view.loc (c : Thread nD τ) ↦[Finset.univ]{(rdats m 0 c).share w} G : sProp 𝕄))) from
      funext fun w => by rw [(launch0.arr_whole w).set_eq_univ]]
  exact bigSep_W0 _

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers. -/
abbrev R (c : Dev nD) : sProp 𝕄 := iprop(∃ W, owes (c : Thread nD τ) (0 : CellTallies nD τ sig Unit) W)

/-- The line before the region. -/
def seg0 : Pipeline.HostSeg (Name := ℕ) (U := Pipeline.UD sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (Vl m) R

/-- The line after it, over whatever padding the run had. -/
def seg1 : Pipeline.HostSeg (Name := ℕ) (U := Pipeline.UD sig nD τ) (pcfgs (F := F)) defs₀ Variants.none L lv where
  prog := StableHlo.seq hostOps1
  pre c := iprop(∃ d, StableHlo.held (c : Thread nD τ) (Pipeline.ucRefs τ sig) (Vo m c d) ∗ R c)
  post c := iprop((∃ d, StableHlo.held (c : Thread nD τ) (Pipeline.ucRefs τ sig) (Ve m c d)) ∗ R c)
  run c {β} k K := by
    iintro ⟨Hk, Hb, ⟨%d, Hh, HR⟩, Hl⟩
    have hrun := (Pipeline.HostSeg.ofOps (Name := ℕ) (U := Pipeline.UD sig nD τ) (pcfgs (F := F)) defs₀ Variants.none L lv (Pipeline.ucRefs τ sig) hostOps1 (fun op h => Pipeline.sub_ucRefs op ((List.forall_iff_forall_mem.mp hostOps1_sub) op h))
      (fun op h => (List.forall_iff_forall_mem.mp hostOps1_fresh) op h) (fun c => Vo m c d) R).run c k K
    dsimp only [Pipeline.HostSeg.ofOps] at hrun
    iapply hrun
    isplitl [Hk]
    · iintro ⟨Hb, Hh, HR⟩
      iapply Hk
      isplitl [Hb]; · iexact Hb
      isplitl [Hh]; · iexists d; iexact Hh
      iexact HR
    isplitl [Hb]; · iexact Hb
    isplitl [Hh HR]
    · isplitl [Hh]; · iexact Hh
      iexact HR
    iexact Hl

set_option backward.isDefEq.respectTransparency.types false in
/-- The region. -/
def reg0 : Pipeline.RDat.RegionSeg (pcfgs (F := F)) adm (rdats m) () defs₀ Variants.none L lv 0 where
  win := launch0.win.to₀
  block_pos := launch0.block_pos
  stage_whole := launch0.stage_whole
  K := Fin 3 × Fin 4
  osem := osem
  ho := ownSemFacts
  hbody c := body_obligation m c
  hwaits := Pipeline.RDat.hwaits_of_owed_zero _ _ _ _ L lv 0 fun _ _ => rfl
  pre c := iprop(StableHlo.held (c : Thread nD τ) (Pipeline.ucRefs τ sig) (V0 m c) ∗ R c)
  post c := iprop(∃ d, StableHlo.held (c : Thread nD τ) (Pipeline.ucRefs τ sig) (Vo m c d) ∗ R c)
  X c := iprop((((c : Thread nD τ).loc main_arg3) ↦[Finset.univ]{fullShare.right} (emW m c)) ∗ Pipeline.ownSems0 osem c)
  Y c := ((c : Thread nD τ).loc main_arg3) ↦[Finset.univ]{fullShare.right} (emW m c)
  Z c := iprop((((c : Thread nD τ).loc main_arg1) ↦{fullShare} V m c main_arg1) ∗ (((c : Thread nD τ).loc main_arg2) ↦{fullShare} V m c main_arg2) ∗ (((c : Thread nD τ).loc main_v0) ↦{fullShare} V m c main_v0))
  hentry c := by
    rw [show (StableHlo.held (c : Thread nD τ) (Pipeline.ucRefs τ sig) (V0 m c) : sProp 𝕄) = unscopedBufs c (V m c) from (Pipeline.unscopedBufs_held c _).symm, bufs_eq]
    rw [show ((rdats m 0 c).arrays (rdats m 0 c).A : sProp 𝕄) = _ from arrays_list m c _]
    iintro ⟨⟨⟨⟨H0, H1, H2, H3⟩, Hz⟩, HO⟩, Hos, -⟩
    ihave H2' := (pointsTo_share (PosShare.mem_left_op_right fullShare)).1 $$ H2
    icases H2' with ⟨H2l, H2r⟩
    imodintro
    isplitl [H0 H1 H2l H3]
    · isplitl [H0]; · iexact H0
      isplitl [H1]; · iexact H1
      isplitl [H2l]; · iexact H2l
      iexact H3
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [H2r Hos]
    · isplitl [H2r]; · iexact H2r
      iexact Hos
    iexact Hz
  hin c := by
    rw [show (rdats m 0 c).Φ 0 = PhiR m c 0 from rfl]
    iintro ⟨HX, -, Hr⟩
    iapply (phi_in m c)
    isplitl [HX]; · iexact HX
    iexact Hr
  hout c := by
    rw [show (rdats m 0 c).Φ (Fin.last _) = PhiR m c 8 from rfl]
    exact phi_out m c
  hexit c := by
    rw [show ((rdats m 0 c).arraysAt cfg0.N : sProp 𝕄) = _ from arraysAt_list m c _]
    iintro ⟨⟨⟨%G0, %h0, H0⟩, ⟨%G1, %h1, H1⟩, ⟨%G2, %h2, H2⟩, ⟨%G3, %h3, H3⟩⟩, HO, HY, ⟨Z1, Z2, Z0⟩⟩
    obtain ⟨d, hd⟩ := arr_out m c G3 h3
    have e0 : G0 = V m c main_arg0 := (congrFun ((rdats m 0 c).ArrAt_in 0 rfl _) G0).mp h0
    have e1 : G1 = V m c main_call0_v0 := (congrFun ((rdats m 0 c).ArrAt_in 1 rfl _) G1).mp h1
    have e2 : G2 = V m c main_arg3 := (congrFun ((rdats m 0 c).ArrAt_in 2 rfl _) G2).mp h2
    have e3 : G3 = Vo m c d (Proc.devRef .tc main_call0_v1) := hd.trans (Vo_out m c d).symm
    rw [← Vo_ne m c d main_arg0 (by decide)] at e0
    rw [← Vo_ne m c d main_call0_v0 (by decide)] at e1
    have e2' : emW m c = Vo m c d (Proc.devRef .tc main_arg3) := (Vo_ne m c d main_arg3 (by decide)).symm
    rw [← Vo_ne m c d main_arg3 (by decide)] at e2
    subst e0 e1 e2 e3
    rw [e2', ← Vo_ne m c d main_arg1 (by decide), ← Vo_ne m c d main_arg2 (by decide), ← Vo_ne m c d main_v0 (by decide)]
    imodintro
    iexists d
    rw [show (StableHlo.held (c : Thread nD τ) (Pipeline.ucRefs τ sig) (Vo m c d) : sProp 𝕄) = unscopedBufs c (fun b => Vo m c d b) from (Pipeline.unscopedBufs_held c _).symm, bufs_eq]
    isplitr [HO]
    · isplitr [Z1 Z2 Z0]
      · isplitl [H0]; · iexact H0
        isplitl [H1]; · iexact H1
        isplitl [H2 HY]
        · iapply (pointsTo_share (PosShare.mem_left_op_right fullShare)).2
          isplitl [H2]; · iexact H2
          iexact HY
        iexact H3
      isplitl [Z1]; · iexact Z1
      isplitl [Z2]; · iexact Z2
      iexact Z0
    · unfold Pipeline.RDat.owesAt Pipeline.owesWithin
      icases HO with ⟨%W, -, HO⟩; iexists W; iexact HO

abbrev segs : List (Pipeline.RDat.Seg (pcfgs (F := F)) adm (rdats m) () defs₀ Variants.none L lv) := [.host (seg0 m), .region (reg0 m), .host (seg1 m)]

def u₀ : Pipeline.UD sig nD τ := (initOf (Pipeline.cells cfgs cellOf_inj) (Pipeline.launchToks cfgs cellOf_inj), 1)

/-- What a run leaves on a core. -/
def QY (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ ∃ d, s.mem ((c : Thread nD τ).loc main_v0) = (fun _ => outOf (sAt m c d 8) : Vec F S_ .f32)

/-- The end state of a core, read against the memory. -/
theorem fin_read (c : Dev nD) (s' : Phys nD τ sig (Elt F)) :
    iprop((∃ d, StableHlo.held (c : Thread nD τ) (Pipeline.ucRefs τ sig) (Ve m c d)) ∗ SI s' : sProp 𝕄) ⊢ iprop(⌜QY m c s'.mem⌝ ∗ SI s') := by
  iintro ⟨⟨%d, Hh⟩, HSI⟩
  ihave Hb := (Entails.of_eq ((Pipeline.unscopedBufs_held c (Ve m c d)).symm.trans (bufs_eq c _))) $$ Hh
  icases Hb with ⟨⟨H0, -, H3, -⟩, H1, H2, Hv⟩
  icombine HSI H0 gives %h0
  icombine HSI H1 gives %h1
  icombine HSI H2 gives %h2
  icombine HSI H3 gives %h3
  icombine HSI Hv gives %hv
  isplitr
  · ipureintro
    exact ⟨(Buf.eq_of_forall_mem_univ h0).trans ((Ve_ne m c d main_arg0 (by decide)).trans ((Vo_ne m c d main_arg0 (by decide)).trans (V_main_arg0 m c))),
      (Buf.eq_of_forall_mem_univ h1).trans ((Ve_ne m c d main_arg1 (by decide)).trans ((Vo_ne m c d main_arg1 (by decide)).trans (V_main_arg1 m c))),
      (Buf.eq_of_forall_mem_univ h2).trans ((Ve_ne m c d main_arg2 (by decide)).trans ((Vo_ne m c d main_arg2 (by decide)).trans (V_main_arg2 m c))),
      (Buf.eq_of_forall_mem_univ h3).trans ((Ve_ne m c d main_arg3 (by decide)).trans ((Vo_ne m c d main_arg3 (by decide)).trans (V_main_arg3 m c))),
      d, (Buf.eq_of_forall_mem_univ hv).trans (Ve_res m c d)⟩
  iexact HSI

set_option backward.isDefEq.respectTransparency.types false in
/-- Every run of @main ends; the arguments are as they were, every counter is zero and the result is the scalar. -/
theorem run_main : θ_run defs (onTc (τ := τ) (main (F := F))) ⟨m, fun _ => 0, ρ⟩ (fun r => (∀ c, QY m c r.2) ∧ r.2.sem = fun _ => 0) :=
  Pipeline.RDat.θ_run_regions_kit_sems (pcfgs (F := F)) adm (rdats m) () cellOf_inj EP defs₀ Variants.none L lv m ρ main (segs m)
    (fun c Q => by
      rw [main_chain, Pipeline.RDat.Seg.run_eq_chain (segs m)]; exact .rfl)
    (by simp only [Pipeline.RDat.Seg.pipes_host, Pipeline.RDat.Seg.pipes_region, Pipeline.RDat.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := fun c => iprop(∃ d, StableHlo.held (c : Thread nD τ) (Pipeline.ucRefs τ sig) (Ve m c d)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := QY m)
    (hfin := fun c s' => by
      iintro H
      imodintro
      iapply (fin_read m c s'); iexact H)
    (hQ := fun _ h hz => ⟨h, funext fun g => hz g (.inr (by revert g; decide))⟩)

end Cert.KernelIdeal.Hand

end
-- ==== Proof.Value.Kern.lean ====
/-
  What the kernel's body reads, in the arguments.
-/
module

public import proofs.«01_k».proof.Proof.Ideal.Launch
public import Idealize.ShloMosaic.Lib.Pointwise
public import Idealize.ShloMosaic.Lib.Pipeline.ClipFacts

@[expose] public section

set_option maxRecDepth 16384

noncomputable section

namespace Cert.Value

open Cert.KernelIdeal Cert.KernelIdeal.Gen Cert.KernelIdeal.Hand
open Idealize.ShloMosaic Idealize.ShloMosaic.TcCoe

variable (m : (ℓ : Loc nD τ sig) → Buf (Elt Ideal) ℓ) (c : Dev nD)

/-- The scores' inputs. -/
theorem x0c_apply (r : Fin 128) (k : Fin 2048) :
    x0c m c (ix2 r k) = (m ((c.tc : Thread nD τ).loc main_arg0) : Vec Ideal S128x2048 .f32) (ix2 r k) := by
  have hV := V_main_arg0 m c
  unfold x0c iblk
  rw [View.read_apply, cast_eq]
  refine Eq.trans (congrFun hV _) ?_
  refine congrArg (m ((c.tc : Thread nD τ).loc main_arg0) : Vec Ideal S128x2048 .f32) (funext fun a => Fin.ext ?_)
  match a with
  | ⟨0, _⟩ => show 0 * 128 + 1 * r.val = r.val; omega
  | ⟨1, _⟩ => show 0 * 2048 + 1 * k.val = k.val; omega

/-- The labels' reshape. -/
theorem reshaped (V₀ : Valuation τ sig (Elt Ideal)) : StableHlo.after hostOps0 V₀ (Proc.devRef .tc main_call0_v0)
    = fun i => shapeCast S128x1 (V₀ (Proc.devRef .tc main_arg1) : Vec Ideal S128 .i32) shapeCasts_S128_S128x1 i := by
  refine (show _ = _ from StableHlo.reshape_result main_arg1 main_call0_v0 rfl shapeCasts_S128_S128x1 (by decide) (by decide) V₀).trans ?_
  rfl

/-- The labels. -/
theorem labc_apply (r : Fin 128) :
    labc m c (ix2 r 0) = (m ((c.tc : Thread nD τ).loc main_arg1) : Vec Ideal S128 .i32) (ix1 r) := by
  have hV : V m c main_call0_v0 = fun i => shapeCast S128x1 (m ((c.tc : Thread nD τ).loc main_arg1) : Vec Ideal S128 .i32) shapeCasts_S128_S128x1 i := by
    exact reshaped (Vl m c)
  unfold labc iblk
  rw [View.read_apply, cast_eq]
  refine Eq.trans (congrFun hV _) ?_
  have e : ((cfg0.win 1).blk t0_0).view.emb (ix2 r (0 : Fin 1)) = (ix2 r (0 : Fin 1) : S128x1.Idx) := funext fun a => Fin.ext (by
    match a with
    | ⟨0, _⟩ => show 0 * 128 + 1 * r.val = r.val; omega
    | ⟨1, _⟩ => show 0 * 1 + 1 * 0 = 0; omega)
  refine (congrArg (fun i => shapeCast S128x1 (m ((c.tc : Thread nD τ).loc main_arg1) : Vec Ideal S128 .i32) shapeCasts_S128_S128x1 i) e).trans ?_
  generalize (m ((c.tc : Thread nD τ).loc main_arg1) : Vec Ideal S128 .i32) = X
  pointwise

/-- The embeddings left in place. -/
theorem emW_apply (i : S16522x2048.Idx) :
    emAt c (emW m c) i = (m ((c.tc : Thread nD τ).loc main_arg3) : Vec Ideal S16522x2048 .f32) i :=
  congrFun (V_main_arg3 m c) i

/-- The tail's rows inside the array. -/
theorem tailOf_apply (d : Vec Ideal S256x2048 .f32) (i : Fin 256) (hi : 16384 + i.val < 16522) (k : Fin 2048) :
    tailOf m c d (ix2 i k) = (m ((c.tc : Thread nD τ).loc main_arg3) : Vec Ideal S16522x2048 .f32) (ix2 ⟨16384 + i.val, hi⟩ k) := by
  have hV := V_main_arg3 m c
  have hm : (cfg0.win 2).moved (grid0.coords t0_0) (ix2 i k) = true := by
    rw [Pipeline.Window.moved_iff]
    intro a
    match a with
    | ⟨0, _⟩ =>
      have h1 : cc0_transform_2 (grid0.coords t0_0) 0 = 64 := rfl
      have h2 : (Pipeline.Clip.of (cc0_transform_2 (grid0.coords t0_0) 0) (S256x2048.size 0) (S16522x2048.size 0)).extent (S256x2048.size 0) = 138 := by
        rw [h1]
        decide
      have h3 : (cfg0.win 2).xsize (grid0.coords t0_0) (0 : Fin 2) = (Pipeline.Clip.of (cc0_transform_2 (grid0.coords t0_0) 0) (S256x2048.size 0) (S16522x2048.size 0)).extent (S256x2048.size 0) := rfl
      have h4 : i.val < (cfg0.win 2).xsize (grid0.coords t0_0) (0 : Fin 2) := by
        rw [h3, h2]
        omega
      exact h4
    | ⟨1, _⟩ =>
      have h1 : cc0_transform_2 (grid0.coords t0_0) 1 = 0 := rfl
      have h2 := Pipeline.Clip.extent_of_inb (ix := cc0_transform_2 (grid0.coords t0_0) 1) (k := S256x2048.size 1) (d := S16522x2048.size 1) (by
        rw [h1, Nat.zero_add, Nat.one_mul]
        exact le_rfl)
      exact lt_of_lt_of_eq k.isLt h2.symm
  unfold tailOf Pipeline.Window.fill
  rw [dif_pos hm]
  unfold iblk
  rw [View.read_apply, cast_eq]
  refine Eq.trans (congrFun hV _) ?_
  refine congrArg (m ((c.tc : Thread nD τ).loc main_arg3) : Vec Ideal S16522x2048 .f32) (funext fun a => Fin.ext ?_)
  match a with
  | ⟨0, _⟩ => show 64 * 256 + 1 * i.val = 16384 + i.val; omega
  | ⟨1, _⟩ => show 0 * 2048 + 1 * k.val = k.val; omega

end Cert.Value

end
-- ==== Proof.Value.Top.lean ====
/-
  The successive greatest values of a set of extended reals, and how the kernel's passes find them.
-/
module

public import Mathlib.Data.EReal.Basic
public import Mathlib.Data.Set.Finite.Lattice
public import Mathlib.Data.Finset.Fold
public import Mathlib.Data.Finset.Lattice.Fold
public import Mathlib.Data.Fintype.Basic
public import Mathlib.Order.ConditionallyCompleteLattice.Finset

@[expose] public section

noncomputable section

namespace Cert.Value

/-- The greatest value, then the greatest value below it, and so on; `⊥` once there is none. -/
def top (A : Set EReal) : ℕ → EReal
  | 0 => sSup A
  | n + 1 => sSup {x | x ∈ A ∧ x < top A n}

/-- Each is at most the one before. -/
theorem top_succ_le (A : Set EReal) (n : ℕ) : top A (n + 1) ≤ top A n := sSup_le fun _ hx => hx.2.le

/-- They decrease. -/
theorem top_anti (A : Set EReal) : Antitone (top A) := antitone_nat_of_succ_le (top_succ_le A)

/-- A larger set has larger ones. -/
theorem top_mono {A C : Set EReal} (h : A ⊆ C) : ∀ n, top A n ≤ top C n
  | 0 => sSup_le_sSup h
  | n + 1 => sSup_le_sSup fun _ hx => ⟨h hx.1, lt_of_lt_of_le hx.2 (top_mono h n)⟩

/-- A member is one of the first ones or below them. -/
theorem mem_top {A : Set EReal} {x : EReal} (hx : x ∈ A) : ∀ n, (∃ i ≤ n, x = top A i) ∨ x < top A n
  | 0 => by
    rcases (le_sSup hx).eq_or_lt with h | h
    · exact .inl ⟨0, le_rfl, h⟩
    · exact .inr h
  | n + 1 => by
    rcases mem_top hx n with ⟨i, hi, e⟩ | h
    · exact .inl ⟨i, by omega, e⟩
    · rcases (show x ≤ top A (n + 1) from le_sSup ⟨hx, h⟩).eq_or_lt with h | h
      · exact .inl ⟨n + 1, le_rfl, h⟩
      · exact .inr h

/-- The supremum of a finite set is a member or `⊥`. -/
theorem sSup_mem_or {A : Set EReal} (hA : A.Finite) : sSup A = ⊥ ∨ sSup A ∈ A := by
  rcases A.eq_empty_or_nonempty with rfl | h
  · exact .inl sSup_empty
  · exact .inr (Set.Nonempty.csSup_mem h hA)

/-- In a finite set the first is a member or `⊥`, and each later one a member below the one before or `⊥`. -/
theorem top_mem {A : Set EReal} (hA : A.Finite) : ∀ n, top A n = ⊥ ∨ top A n ∈ A
  | 0 => sSup_mem_or hA
  | n + 1 => (sSup_mem_or (hA.subset fun _ h => h.1)).imp_right fun h => h.1

/-- A set that agrees with `C` but for `⊥` and for members below the sixth value has the same six. -/
theorem top_congr {U C : Set EReal} (hC : C.Finite) (h1 : ∀ x ∈ U, x = ⊥ ∨ x ∈ C)
    (h2 : ∀ x ∈ C, x ∈ U ∨ x < top C 5) : ∀ j ≤ 5, top U j = top C j
  | 0, _ => by
    refine le_antisymm (sSup_le fun x hx => ?_) ?_
    · rcases h1 x hx with rfl | h
      · exact bot_le
      · exact le_sSup h
    · rcases top_mem hC 0 with h | h
      · rw [h]; exact bot_le
      · rcases h2 _ h with h' | h'
        · exact le_sSup h'
        · exact absurd h' (not_lt.2 (top_anti C (by omega)))
  | j + 1, hj => by
    have ih := top_congr hC h1 h2 j (by omega)
    refine le_antisymm (sSup_le fun x hx => ?_) ?_
    · rcases h1 x hx.1 with rfl | h
      · exact bot_le
      · exact le_sSup ⟨h, ih ▸ hx.2⟩
    · rcases sSup_mem_or (hC.subset fun x (h : x ∈ {x | x ∈ C ∧ x < top C j}) => h.1) with h | h
      · show sSup {x | x ∈ C ∧ x < top C j} ≤ _
        rw [h]; exact bot_le
      · rcases h2 _ h.1 with h' | h'
        · exact le_sSup ⟨h', by rw [ih]; exact h.2⟩
        · exact absurd h' (not_lt.2 (top_anti C hj))

/-- The six values of a union are those of the two sixes. -/
theorem top_merge {A B : Set EReal} (hA : A.Finite) (hB : B.Finite) {U : Set EReal}
    (hU : ∀ x, x ∈ U → x = ⊥ ∨ (∃ i ≤ 5, x = top A i) ∨ ∃ i ≤ 5, x = top B i)
    (hUA : ∀ i ≤ 5, top A i ∈ U) (hUB : ∀ i ≤ 5, top B i ∈ U) :
    ∀ j ≤ 5, top U j = top (A ∪ B) j := by
  refine top_congr (hA.union hB) (fun x hx => ?_) fun x hx => ?_
  · rcases hU x hx with h | ⟨i, -, rfl⟩ | ⟨i, -, rfl⟩
    · exact .inl h
    · exact (top_mem hA i).imp_right .inl
    · exact (top_mem hB i).imp_right .inr
  · rcases hx with hx | hx
    · rcases mem_top hx 5 with ⟨i, hi, rfl⟩ | h
      · exact .inl (hUA i hi)
      · exact .inr (lt_of_lt_of_le h (top_mono Set.subset_union_left 5))
    · rcases mem_top hx 5 with ⟨i, hi, rfl⟩ | h
      · exact .inl (hUB i hi)
      · exact .inr (lt_of_lt_of_le h (top_mono Set.subset_union_right 5))

/-- `⊥` adds nothing. -/
theorem top_insert_bot {U A : Set EReal} (hA : A.Finite) (h1 : ∀ x ∈ U, x = ⊥ ∨ x ∈ A) (h2 : A ⊆ U) :
    ∀ j ≤ 5, top U j = top A j :=
  top_congr hA h1 fun _ hx => .inl (h2 hx)

/-- Of the empty set. -/
theorem top_empty : ∀ n, top ∅ n = ⊥
  | 0 => sSup_empty
  | n + 1 => (top_mem Set.finite_empty (n + 1)).resolve_right id

variable {ι : Type} [Fintype ι]

/-- A row's maximum, as a fold. -/
theorem fold_max (g : ι → EReal) : Finset.univ.fold max ⊥ g = sSup (Set.range g) := by
  refine le_antisymm ?_ (sSup_le ?_)
  · exact Finset.fold_max_le _ |>.2 ⟨bot_le, fun i _ => le_sSup ⟨i, rfl⟩⟩
  · rintro _ ⟨i, rfl⟩
    exact Finset.le_fold_max _ |>.2 (.inr ⟨i, Finset.mem_univ i, le_rfl⟩)

/-- The greatest value below `t`, as a fold. -/
theorem fold_max_below (g : ι → EReal) (t : EReal) :
    Finset.univ.fold max ⊥ (fun i => if g i < t then g i else ⊥) = sSup {x | x ∈ Set.range g ∧ x < t} := by
  rw [fold_max]
  refine le_antisymm (sSup_le ?_) (sSup_le ?_)
  · rintro _ ⟨i, rfl⟩
    dsimp only
    split
    · exact le_sSup ⟨⟨i, rfl⟩, ‹_›⟩
    · exact bot_le
  · rintro _ ⟨⟨i, rfl⟩, h⟩
    exact le_sSup ⟨i, if_pos h⟩

/-- A list with its greatest values dropped to `⊥`. -/
def dropMax (u : ι → EReal) : ι → EReal :=
  fun i => if u i = Finset.univ.fold max ⊥ u then ⊥ else u i

/-- Dropped `n` times. -/
def dropped (u : ι → EReal) : ℕ → ι → EReal
  | 0 => u
  | n + 1 => dropMax (dropped u n)

/-- After `n + 1` drops the values below the `n`th remain, and the maxima are the successive greatest values. -/
theorem dropped_succ (u : ι → EReal) : ∀ n, Finset.univ.fold max ⊥ (dropped u n) = top (Set.range u) n
    ∧ dropped u (n + 1) = fun i => if u i < top (Set.range u) n then u i else ⊥
  | 0 => by
    have h : Finset.univ.fold max ⊥ (dropped u 0) = top (Set.range u) 0 := fold_max u
    refine ⟨h, funext fun i => ?_⟩
    show (if u i = Finset.univ.fold max ⊥ (dropped u 0) then ⊥ else u i) = _
    rw [h]
    have hle : u i ≤ top (Set.range u) 0 := le_sSup ⟨i, rfl⟩
    by_cases e : u i = top (Set.range u) 0
    · rw [if_pos e, if_neg (by rw [e]; exact lt_irrefl _)]
    · rw [if_neg e, if_pos (lt_of_le_of_ne hle e)]
  | n + 1 => by
    obtain ⟨-, ih⟩ := dropped_succ u n
    have h : Finset.univ.fold max ⊥ (dropped u (n + 1)) = top (Set.range u) (n + 1) := by
      rw [ih]; exact fold_max_below u _
    refine ⟨h, funext fun i => ?_⟩
    show (if dropped u (n + 1) i = Finset.univ.fold max ⊥ (dropped u (n + 1)) then ⊥ else dropped u (n + 1) i) = _
    rw [h, ih]
    dsimp only
    by_cases hi : u i < top (Set.range u) n
    · simp only [if_pos hi]
      have hle : u i ≤ top (Set.range u) (n + 1) := le_sSup ⟨⟨i, rfl⟩, hi⟩
      by_cases e : u i = top (Set.range u) (n + 1)
      · rw [if_pos e, if_neg (by rw [e]; exact lt_irrefl _)]
      · rw [if_neg e, if_pos (lt_of_le_of_ne hle e)]
    · simp only [if_neg hi, if_neg fun h => hi (lt_of_lt_of_le h (top_succ_le _ n)), ite_self]

/-- The maximum after `n` drops. -/
theorem fold_dropped (u : ι → EReal) (n : ℕ) : Finset.univ.fold max ⊥ (dropped u n) = top (Set.range u) n :=
  (dropped_succ u n).1

/-- In decreasing order, strictly so at the head, the values at the head are the successive greatest. -/
theorem top_sorted {n : ℕ} (f : Fin n → EReal) (σ : Fin n → Fin n) (hσ : Function.Surjective σ)
    (hanti : ∀ i j : Fin n, i < j → f (σ j) ≤ f (σ i)) {k : ℕ} (hk : k < n)
    (hstrict : ∀ (i : ℕ) (hi : i + 1 ≤ k), f (σ ⟨i + 1, by omega⟩) < f (σ ⟨i, by omega⟩)) :
    ∀ (j : ℕ) (hj : j ≤ k), top (Set.range f) j = f (σ ⟨j, by omega⟩)
  | 0, hj => by
    refine le_antisymm (sSup_le ?_) (le_sSup ⟨_, rfl⟩)
    rintro _ ⟨i, rfl⟩
    obtain ⟨p, rfl⟩ := hσ i
    rcases Nat.eq_zero_or_pos p.val with h | h
    · exact le_of_eq (congrArg (fun q => f (σ q)) (Fin.ext h))
    · exact hanti _ _ h
  | j + 1, hj => by
    have ih := top_sorted f σ hσ hanti hk hstrict j (by omega)
    show sSup {x | x ∈ Set.range f ∧ x < top (Set.range f) j} = _
    rw [ih]
    refine le_antisymm (sSup_le ?_) (le_sSup ⟨⟨_, rfl⟩, hstrict j hj⟩)
    rintro _ ⟨⟨i, rfl⟩, hlt⟩
    obtain ⟨p, rfl⟩ := hσ i
    have hp : j + 1 ≤ p.val := by
      by_contra hc
      rcases (show p.val ≤ j by omega).eq_or_lt with h | h
      · have e : p = ⟨j, by omega⟩ := Fin.ext h
        rw [e] at hlt
        exact lt_irrefl _ hlt
      · exact absurd hlt (not_lt.2 (hanti p ⟨j, by omega⟩ h))
    rcases hp.eq_or_lt with h | h
    · exact le_of_eq (congrArg (fun q => f (σ q)) (Fin.ext h.symm))
    · exact hanti _ _ h

end Cert.Value

end
-- ==== Proof.Value.Merge.lean ====
/-
  The kernel's passes over a block of scores, read at a row: the maximum, the maximum below a bound, and the merge of
  the running six with a block's six.
-/
module

public import proofs.«01_k».proof.Proof.Ideal.State
public import proofs.«01_k».proof.Proof.Value.Top
public import Idealize.ShloMosaic.Lib.Pointwise

@[expose] public section

set_option maxRecDepth 16384

noncomputable section

namespace Cert.Value

open Cert.KernelIdeal Cert.KernelIdeal.Gen Cert.KernelIdeal.Hand
open Idealize.ShloMosaic

/-- The mask is `⊥`. -/
theorem mask_bot : (Named.named κ "mask" 0xF149F2CA#32 : Ideal .f32) = ⊥ :=
  IdealRules.named_const.ideal_named_scalar _ _ _ _ rfl

/-- The pattern of `-∞` is `⊥`. -/
theorem ofBits_neg_inf : Ideal.ofBits .f32 0xFF800000#32 = ⊥ := by simp [Ideal.ofBits, Ideal.ieee]

/-- The greatest score below `t`, in a block of 256. -/
def nx256 (S : FVec Ideal S128x256 .f32) (t : FVec Ideal S128x1 .f32) : FVec Ideal S128x1 .f32 :=
  shapeCast S128x1 (multiReduction .maximumf [1] S128 (select (cmpf .olt S (broadcastTo S128x256 t broadcasts_S128x1_S128x256)) S
    (broadcast S128x256 (Named.named κ "mask" 0xF149F2CA#32 : Ideal .f32))) 0xFF800000#32 reduces_S128x256_S128 (.inl rfl) rfl) shapeCasts_S128_S128x1

/-- The running eight and a block's six, side by side. -/
def concat14 (k : FVec Ideal S128x8 .f32) (a b c d e f : FVec Ideal S128x1 .f32) : FVec Ideal S128x14 .f32 :=
  concatenate S128x14 1 [⟨S128x8, k⟩, ⟨S128x1, a⟩, ⟨S128x1, b⟩, ⟨S128x1, c⟩, ⟨S128x1, d⟩, ⟨S128x1, e⟩, ⟨S128x1, f⟩] concatenates_S128x8_S128x1_S128x1_S128x1_S128x1_S128x1_S128x1_S128x14_d1

/-- A row's maximum among the fourteen. -/
def rmax14 (v : FVec Ideal S128x14 .f32) : FVec Ideal S128x1 .f32 :=
  shapeCast S128x1 (multiReduction .maximumf [1] S128 v 0xFF800000#32 reduces_S128x14_S128 (.inl rfl) rfl) shapeCasts_S128_S128x1

/-- The fourteen with the maximum dropped. -/
def drop14 (v : FVec Ideal S128x14 .f32) : FVec Ideal S128x14 .f32 :=
  select (cmpf .oeq v (broadcastTo S128x14 (rmax14 v) broadcasts_S128x1_S128x14)) (broadcast S128x14 (Named.named κ "mask" 0xF149F2CA#32 : Ideal .f32)) v

/-- Six maxima and two masks, side by side. -/
def concat8 (a b c d e f : FVec Ideal S128x1 .f32) : FVec Ideal S128x8 .f32 :=
  concatenate S128x8 1 [⟨S128x1, a⟩, ⟨S128x1, b⟩, ⟨S128x1, c⟩, ⟨S128x1, d⟩, ⟨S128x1, e⟩, ⟨S128x1, f⟩, ⟨S128x2, broadcast S128x2 (Named.named κ "mask" 0xF149F2CA#32 : Ideal .f32)⟩] concatenates_S128x1_S128x1_S128x1_S128x1_S128x1_S128x1_S128x2_S128x8_d1

/-- The six greatest of the fourteen. -/
def top8 (v : FVec Ideal S128x14 .f32) : FVec Ideal S128x8 .f32 :=
  concat8 (rmax14 v) (rmax14 (drop14 v)) (rmax14 (drop14 (drop14 v))) (rmax14 (drop14 (drop14 (drop14 v))))
    (rmax14 (drop14 (drop14 (drop14 (drop14 v))))) (rmax14 (drop14 (drop14 (drop14 (drop14 (drop14 v))))))

/-- The tail's merge. -/
theorem tail_merge (S : FVec Ideal S128x256 .f32) (t : FVec Ideal S128x1 .f32) (k : FVec Ideal S128x8 .f32) :
    k0_pay18 (k0_pay15 S t k) (k0_pay16 S t k) (k0_pay17 S t k)
      = top8 (concat14 k t (nx256 S t) (nx256 S (nx256 S t)) (nx256 S (nx256 S (nx256 S t))) (nx256 S (nx256 S (nx256 S (nx256 S t))))
          (nx256 S (nx256 S (nx256 S (nx256 S (nx256 S t)))))) :=
  shapeCast_self _ _

/-- A chunk's merge. -/
theorem chunk_merge (S : FVec Ideal S128x2048 .f32) (t : FVec Ideal S128x1 .f32) (k : FVec Ideal S128x8 .f32) :
    k0_pay32 S t (k0_pay26 S t) (k0_pay27 S t) (k0_pay28 S t) (k0_pay29 S t) (k0_pay30 S t) k0_pay31 k
      = top8 (concat14 k t (k0_pay26 S t) (k0_pay26 S (k0_pay26 S t)) (k0_pay26 S (k0_pay26 S (k0_pay26 S t))) (k0_pay26 S (k0_pay26 S (k0_pay26 S (k0_pay26 S t))))
          (k0_pay26 S (k0_pay26 S (k0_pay26 S (k0_pay26 S (k0_pay26 S t)))))) :=
  shapeCast_self _ _

/-- The greatest score of a row below `t`. -/
theorem nx256_apply (S : FVec Ideal S128x256 .f32) (t : FVec Ideal S128x1 .f32) (r : Fin 128) :
    nx256 S t (ix2 r 0) = sSup {x | x ∈ Set.range (fun c : Fin 256 => S (ix2 r c)) ∧ x < t (ix2 r 0)} := by
  rw [← fold_max_below]
  pointwise [nx256]
  rw [mask_bot, ofBits_neg_inf]

/-- The same, in a chunk. -/
theorem nx2048_apply (S : FVec Ideal S128x2048 .f32) (t : FVec Ideal S128x1 .f32) (r : Fin 128) :
    k0_pay26 S t (ix2 r 0) = sSup {x | x ∈ Set.range (fun c : Fin 2048 => S (ix2 r c)) ∧ x < t (ix2 r 0)} := by
  rw [← fold_max_below]
  pointwise [k0_pay26]
  rw [mask_bot, ofBits_neg_inf]

/-- The maximum of the fourteen. -/
theorem rmax14_apply (v : FVec Ideal S128x14 .f32) (r : Fin 128) :
    rmax14 v (ix2 r 0) = Finset.univ.fold max ⊥ (fun c : Fin 14 => v (ix2 r c)) := by
  pointwise [rmax14]
  rw [ofBits_neg_inf]

/-- Dropping it. -/
theorem drop14_apply (v : FVec Ideal S128x14 .f32) (r : Fin 128) (c : Fin 14) :
    drop14 v (ix2 r c) = dropMax (fun c : Fin 14 => v (ix2 r c)) c := by
  unfold dropMax
  rw [← rmax14_apply]
  pointwise [drop14]
  rw [mask_bot]

/-- The six maxima of the fourteen, in order. -/
theorem top8_apply (v : FVec Ideal S128x14 .f32) (r : Fin 128) (j : ℕ) (hj : j ≤ 5) :
    top8 v (ix2 r (⟨j, by omega⟩ : Fin 8)) = top (Set.range fun c : Fin 14 => v (ix2 r c)) j := by
  have hd : ∀ w : FVec Ideal S128x14 .f32, (fun c : Fin 14 => drop14 w (ix2 r c)) = dropMax (fun c : Fin 14 => w (ix2 r c)) :=
    fun w => funext fun c => drop14_apply w r c
  rw [← fold_dropped]
  interval_cases j <;> pointwise [top8, concat8] <;> rw [rmax14_apply] <;> (try simp only [hd]) <;> rfl

/-- The last two are masks. -/
theorem top8_pad (v : FVec Ideal S128x14 .f32) (r : Fin 128) (j : Fin 8) (hj : 6 ≤ j.val) : top8 v (ix2 r j) = ⊥ := by
  obtain ⟨j, h⟩ := j
  dsimp only at hj
  rw [← mask_bot]
  interval_cases j <;> pointwise [top8, concat8]

end Cert.Value

end
-- ==== Proof.Value.Inv.lean ====
/-
  What the running state of a row holds after a set of columns, and that a block's step keeps it so.
-/
module

public import proofs.«01_k».proof.Proof.Value.Top
public import Idealize.ShloMosaic.PureOps.Ideal
public import Mathlib.Algebra.BigOperators.Fin
public import Mathlib.Algebra.BigOperators.Intervals

@[expose] public section

noncomputable section

namespace Cert.Value

open Idealize.ShloMosaic
open scoped BigOperators

/-- A sum of reals, as extended reals. -/
theorem coe_sum {ι : Type} (S : Finset ι) (h : ι → ℝ) : ((∑ j ∈ S, h j : ℝ) : EReal) = ∑ j ∈ S, ((h j : ℝ) : EReal) := by
  classical
  induction S using Finset.induction_on with
  | empty => simp
  | insert a S ha ih => rw [Finset.sum_insert ha, Finset.sum_insert ha, EReal.coe_add, ih]

/-- The exponential of a difference of reals. -/
theorem exp_coe_sub (a b : ℝ) : Ideal.exp ((a : EReal) - (b : EReal)) = ((Real.exp (a - b) : ℝ) : EReal) := by
  rw [← EReal.coe_sub]; rfl

/-- Below everything the exponential is zero. -/
theorem exp_bot_sub (b : ℝ) : Ideal.exp ((⊥ : EReal) - (b : EReal)) = 0 := by
  rw [EReal.bot_sub]; rfl

variable {N : ℕ} (x : Fin N → ℝ)

/-- The values of a set of columns. -/
def img (S : Finset (Fin N)) : Set EReal := (fun j => ((x j : ℝ) : EReal)) '' (S : Set (Fin N))

theorem img_finite (S : Finset (Fin N)) : (img x S).Finite := S.finite_toSet.image _

theorem img_union [DecidableEq (Fin N)] (S B : Finset (Fin N)) : img x (S ∪ B) = img x S ∪ img x B := by
  unfold img; rw [Finset.coe_union, Set.image_union]

/-- Of a nonempty set the supremum is a real. -/
theorem sSup_img {S : Finset (Fin N)} (hS : S.Nonempty) : ∃ M : ℝ, sSup (img x S) = (M : EReal) := by
  rcases sSup_mem_or (img_finite x S) with h | h
  · obtain ⟨j, hj⟩ := hS
    have : ((x j : ℝ) : EReal) ≤ sSup (img x S) := le_sSup ⟨j, hj, rfl⟩
    rw [h, le_bot_iff] at this
    exact absurd this (EReal.coe_ne_bot _)
  · obtain ⟨j, -, e⟩ := h
    exact ⟨x j, e.symm⟩

/-- The row's state after the columns of `S`, `ℓ` the label. -/
structure Inv (ℓ : ℕ) (S : Finset (Fin N)) (m s v : EReal) (k : Fin 8 → EReal) : Prop where
  hm : m = sSup (img x S)
  hs : s = ∑ j ∈ S, Ideal.exp ((x j : EReal) - sSup (img x S))
  hv : v = ∑ j ∈ S, if j.val = ℓ then ((x j : ℝ) : EReal) else 0
  hk : ∀ (j : ℕ) (hj : j ≤ 5), k ⟨j, by omega⟩ = top (img x S) j
  hp : ∀ j : Fin 8, 6 ≤ j.val → k j = ⊥

/-- Before any column. -/
theorem Inv.init (ℓ : ℕ) : Inv x ℓ ∅ ⊥ 0 0 (fun _ => ⊥) where
  hm := by unfold img; simp
  hs := by simp
  hv := by simp
  hk j hj := by
    have : img x ∅ = ∅ := by unfold img; simp
    rw [this, top_empty]
  hp _ _ := rfl

/-- Moving the sum of exponentials to a new maximum. -/
theorem rescale (S : Finset (Fin N)) (M : ℝ) :
    (∑ j ∈ S, Ideal.exp ((x j : EReal) - sSup (img x S))) * Ideal.exp (sSup (img x S) - (M : EReal))
      = ∑ j ∈ S, Ideal.exp ((x j : EReal) - (M : EReal)) := by
  rcases S.eq_empty_or_nonempty with rfl | hS
  · simp
  · obtain ⟨K, hK⟩ := sSup_img x hS
    rw [hK]
    simp only [exp_coe_sub]
    rw [← coe_sum, ← coe_sum, ← EReal.coe_mul, Finset.sum_mul]
    refine congrArg _ (Finset.sum_congr rfl fun j _ => ?_)
    rw [← Real.exp_add]
    congr 1
    ring

/-- One block's step. -/
theorem Inv.step [DecidableEq (Fin N)] {ℓ : ℕ} {S : Finset (Fin N)} {m s v : EReal} {k : Fin 8 → EReal} (h : Inv x ℓ S m s v k)
    {B : Finset (Fin N)} (hdis : Disjoint S B) (hB : B.Nonempty) {κ : Type} [Fintype κ] (g : κ → EReal)
    (hg1 : ∀ c, g c = ⊥ ∨ ∃ j ∈ B, g c = ((x j : ℝ) : EReal)) (hg2 : ∀ j ∈ B, ∃ c, g c = ((x j : ℝ) : EReal))
    (hexp : ∀ M : ℝ, ∑ c, Ideal.exp (g c - (M : EReal)) = ∑ j ∈ B, Ideal.exp ((x j : EReal) - (M : EReal)))
    {w : EReal} (hw : w = ∑ j ∈ B, if j.val = ℓ then ((x j : ℝ) : EReal) else 0)
    (u : Fin 14 → EReal) (hu0 : ∀ i : Fin 8, u ⟨i.val, by omega⟩ = k i)
    (hu1 : ∀ (i : ℕ) (hi : i ≤ 5), u ⟨8 + i, by omega⟩ = top (Set.range g) i)
    {k' : Fin 8 → EReal} (hk' : ∀ (j : ℕ) (hj : j ≤ 5), k' ⟨j, by omega⟩ = top (Set.range u) j)
    (hp' : ∀ j : Fin 8, 6 ≤ j.val → k' j = ⊥) :
    Inv x ℓ (S ∪ B) (max m (sSup (Set.range g)))
      (s * Ideal.exp (m - max m (sSup (Set.range g))) + ∑ c, Ideal.exp (g c - max m (sSup (Set.range g)))) (v + w) k' := by
  have htop : ∀ j ≤ 5, top (Set.range g) j = top (img x B) j :=
    top_insert_bot (img_finite x B) (by
      rintro _ ⟨c, rfl⟩
      exact (hg1 c).imp_right fun ⟨j, hj, e⟩ => ⟨j, hj, e.symm⟩) (by
      rintro _ ⟨j, hj, rfl⟩
      obtain ⟨c, e⟩ := hg2 j hj
      exact ⟨c, e⟩)
  have hM : max m (sSup (Set.range g)) = sSup (img x (S ∪ B)) := by
    rw [h.hm, show sSup (Set.range g) = sSup (img x B) from htop 0 (by omega), img_union, sSup_union]
  obtain ⟨M, eM⟩ := sSup_img x (hB.mono Finset.subset_union_right : (S ∪ B).Nonempty)
  constructor
  · exact hM
  · rw [hM, h.hs, h.hm, eM, rescale, hexp, Finset.sum_union hdis]
  · rw [h.hv, hw, Finset.sum_union hdis]
  · intro j hj
    rw [hk' j hj, img_union]
    refine top_merge (img_finite x S) (img_finite x B) ?_ ?_ ?_ j hj
    · rintro _ ⟨c, rfl⟩
      by_cases h8 : c.val < 8
      · have e : u c = k ⟨c.val, h8⟩ := hu0 ⟨c.val, h8⟩
        rw [e]
        by_cases h6 : c.val < 6
        · exact .inr (.inl ⟨c.val, by omega, h.hk c.val (by omega)⟩)
        · exact .inl (h.hp _ (by show 6 ≤ c.val; omega))
      · refine .inr (.inr ⟨c.val - 8, by omega, ?_⟩)
        rw [← htop _ (by omega), ← hu1 (c.val - 8) (by omega)]
        exact congrArg u (Fin.ext (by show c.val = 8 + (c.val - 8); omega))
    · intro i hi
      exact ⟨_, (hu0 ⟨i, by omega⟩).trans (h.hk i hi)⟩
    · intro i hi
      exact ⟨_, (hu1 i hi).trans (htop i hi)⟩
  · exact hp'

/-- A sum over a block of columns, by the column's place in the block. -/
theorem sum_block {A : Type} [AddCommMonoid A] (h : Fin N → A) (off n : ℕ) :
    (∑ c : Fin n, if hc : off + c.val < N then h ⟨off + c.val, hc⟩ else 0)
      = ∑ j ∈ Finset.univ.filter (fun j : Fin N => off ≤ j.val ∧ j.val < off + n), h j := by
  let H : ℕ → A := fun j => if hj : j < N then h ⟨j, hj⟩ else 0
  have h1 : (∑ c : Fin n, if hc : off + c.val < N then h ⟨off + c.val, hc⟩ else 0) = ∑ j ∈ Finset.Ico off (off + n), H j := by
    rw [Finset.sum_Ico_eq_sum_range, Nat.add_sub_cancel_left]
    exact Fin.sum_univ_eq_sum_range (fun c => H (off + c)) n
  have h2 : ∑ j ∈ Finset.univ.filter (fun j : Fin N => off ≤ j.val ∧ j.val < off + n), h j
      = ∑ j ∈ (Finset.range N).filter (fun j => off ≤ j ∧ j < off + n), H j := by
    rw [Finset.sum_filter, Finset.sum_filter, ← Fin.sum_univ_eq_sum_range (fun j => if off ≤ j ∧ j < off + n then H j else 0) N]
    refine Finset.sum_congr rfl fun j _ => ?_
    show _ = if off ≤ j.val ∧ j.val < off + n then (if hj : j.val < N then h ⟨j.val, hj⟩ else 0) else 0
    rw [dif_pos j.isLt]
  rw [h1, h2]
  refine (Finset.sum_subset (fun j hj => ?_) fun j hj hj' => ?_).symm
  · rw [Finset.mem_filter] at hj
    exact Finset.mem_Ico.2 hj.2
  · refine dif_neg fun hc => hj' ?_
    rw [Finset.mem_filter, Finset.mem_range]
    exact ⟨hc, Finset.mem_Ico.1 hj⟩

end Cert.Value

end
-- ==== Proof.Value.Pays.lean ====
/-
  The kernel's reductions and updates, read at a row.
-/
module

public import proofs.«01_k».proof.Proof.Value.Merge
public import proofs.«01_k».proof.Proof.Value.Inv

@[expose] public section

set_option maxRecDepth 16384

noncomputable section

namespace Cert.Value

open Cert.KernelIdeal Cert.KernelIdeal.Gen Cert.KernelIdeal.Hand
open Idealize.ShloMosaic

/-- The tail's maximum. -/
theorem pay9_apply (xs : Vec Ideal S128x2048 .f32) (T : Vec Ideal S256x2048 .f32) (r : Fin 128) :
    k0_pay9 xs T (ix2 r 0) = sSup (Set.range fun c : Fin 256 => k0_pay8 xs T (ix2 r c)) := by
  rw [← fold_max]
  pointwise [k0_pay9]
  rw [ofBits_neg_inf]
/-- The new maximum. -/
theorem pay10_apply (xs : Vec Ideal S128x2048 .f32) (T : Vec Ideal S256x2048 .f32) (m : Vec Ideal S128x1 .f32) (r : Fin 128) :
    k0_pay10 xs T m (ix2 r 0) = max (m (ix2 r 0)) (sSup (Set.range fun c : Fin 256 => k0_pay8 xs T (ix2 r c))) := by
  rw [← pay9_apply]
  pointwise [k0_pay10]
theorem pay12_apply (xs : Vec Ideal S128x2048 .f32) (T : Vec Ideal S256x2048 .f32) (m : Vec Ideal S128x1 .f32) (r : Fin 128) :
    k0_pay12 xs T m (ix2 r 0) = max (m (ix2 r 0)) (sSup (Set.range fun c : Fin 256 => k0_pay8 xs T (ix2 r c))) := by
  rw [← pay10_apply]
  pointwise [k0_pay12]
/-- The new sum. -/
theorem pay11_apply (xs : Vec Ideal S128x2048 .f32) (T : Vec Ideal S256x2048 .f32) (m s : Vec Ideal S128x1 .f32) (r : Fin 128) :
    k0_pay11 xs T m s (ix2 r 0) = s (ix2 r 0) * Ideal.exp (m (ix2 r 0) - max (m (ix2 r 0)) (sSup (Set.range fun c : Fin 256 => k0_pay8 xs T (ix2 r c))))
      + ∑ c : Fin 256, Ideal.exp (k0_pay8 xs T (ix2 r c) - max (m (ix2 r 0)) (sSup (Set.range fun c : Fin 256 => k0_pay8 xs T (ix2 r c)))) := by
  rw [← pay10_apply]
  pointwise [k0_pay11]
/-- The label's score. -/
theorem pay14_apply (S : FVec Ideal S128x256 .f32) (v : Vec Ideal S128x1 .f32) (l : Vec Ideal S128x1 .i32) (r : Fin 128) :
    k0_pay14 S v (k0_pay13 l) (Scalar.ofBits .f32 0x00000000#32) (ix2 r 0)
      = v (ix2 r 0) + ∑ c : Fin 256, Scalar.select (IntOp.cmpi .eq (IntOp.addi 16384#32 (BitVec.ofNat 32 c.val)) (l (ix2 r 0))) (S (ix2 r c)) 0 := by
  pointwise [k0_pay14, k0_pay13, k0_pay7]
/-- The tail's scores. -/
theorem pay8_apply (xs : Vec Ideal S128x2048 .f32) (T : Vec Ideal S256x2048 .f32) (r : Fin 128) (c : Fin 256) :
    k0_pay8 xs T (ix2 r c) = Scalar.select (IntOp.cmpi .slt (IntOp.addi 16384#32 (BitVec.ofNat 32 c.val)) 16522#32)
      (∑ k : Fin 2048, xs (ix2 r k) * T (ix2 c k)) (⊥ : EReal) := by
  pointwise [k0_pay8, k0_pay7]
  rw [mask_bot]

/-- A chunk's scores. -/
theorem pay19_apply (xs : Vec Ideal S128x2048 .f32) (C : Vec Ideal S1x2048x2048 .f32) (r : Fin 128) (c : Fin 2048) :
    k0_pay19 xs C (ix2 r c) = ∑ k : Fin 2048, xs (ix2 r k) * C (ix3 0 c k) := by
  pointwise [k0_pay19]
/-- A chunk's maximum. -/
theorem pay21_apply (xs : Vec Ideal S128x2048 .f32) (C : Vec Ideal S1x2048x2048 .f32) (r : Fin 128) :
    k0_pay21 xs C (ix2 r 0) = sSup (Set.range fun c : Fin 2048 => k0_pay19 xs C (ix2 r c)) := by
  rw [← fold_max]
  pointwise [k0_pay21]
  rw [ofBits_neg_inf]
theorem pay22_apply (xs : Vec Ideal S128x2048 .f32) (C : Vec Ideal S1x2048x2048 .f32) (m : Vec Ideal S128x1 .f32) (r : Fin 128) :
    k0_pay22 xs C m (ix2 r 0) = max (m (ix2 r 0)) (sSup (Set.range fun c : Fin 2048 => k0_pay19 xs C (ix2 r c))) := by
  rw [← pay21_apply]
  pointwise [k0_pay22]
theorem pay24_apply (xs : Vec Ideal S128x2048 .f32) (C : Vec Ideal S1x2048x2048 .f32) (m : Vec Ideal S128x1 .f32) (r : Fin 128) :
    k0_pay24 (k0_pay22 xs C m) (ix2 r 0) = max (m (ix2 r 0)) (sSup (Set.range fun c : Fin 2048 => k0_pay19 xs C (ix2 r c))) := by
  rw [← pay22_apply]
  pointwise [k0_pay24]
theorem pay23_apply (xs : Vec Ideal S128x2048 .f32) (C : Vec Ideal S1x2048x2048 .f32) (m s : Vec Ideal S128x1 .f32) (r : Fin 128) :
    k0_pay23 xs C m s (ix2 r 0) = s (ix2 r 0) * Ideal.exp (m (ix2 r 0) - max (m (ix2 r 0)) (sSup (Set.range fun c : Fin 2048 => k0_pay19 xs C (ix2 r c))))
      + ∑ c : Fin 2048, Ideal.exp (k0_pay19 xs C (ix2 r c) - max (m (ix2 r 0)) (sSup (Set.range fun c : Fin 2048 => k0_pay19 xs C (ix2 r c)))) := by
  rw [← pay22_apply]
  pointwise [k0_pay23]
theorem pay25_apply (S : FVec Ideal S128x2048 .f32) (a : BitVec 32) (v : Vec Ideal S128x1 .f32) (l : Vec Ideal S128x1 .i32) (r : Fin 128) :
    k0_pay25 S (k0_pay20 a) v l (ix2 r 0)
      = v (ix2 r 0) + ∑ c : Fin 2048, Scalar.select (IntOp.cmpi .eq (IntOp.addi (Scalar.muli a 2048#32) (BitVec.ofNat 32 c.val)) (l (ix2 r 0))) (S (ix2 r c)) 0 := by
  pointwise [k0_pay25, k0_pay20]
theorem st0_m (r : Fin 128) : (st0 (F := Ideal)).m (ix2 r 0) = ⊥ := by
  show k0_pay3 (F := Ideal) (ix2 r 0) = ⊥
  rw [← mask_bot]
  pointwise [k0_pay3]
theorem st0_s (r : Fin 128) : (st0 (F := Ideal)).s (ix2 r 0) = 0 := by
  show k0_pay4 (F := Ideal) (ix2 r 0) = 0
  pointwise [k0_pay4]
theorem st0_v (r : Fin 128) : (st0 (F := Ideal)).v (ix2 r 0) = 0 := by
  show k0_pay5 (F := Ideal) (ix2 r 0) = 0
  pointwise [k0_pay5]
theorem st0_k (r : Fin 128) (j : Fin 8) : (st0 (F := Ideal)).k (ix2 r j) = ⊥ := by
  show k0_pay6 (F := Ideal) (ix2 r j) = ⊥
  rw [← mask_bot]
  pointwise [k0_pay6]
/-- The named scale. -/
theorem scale_real : (Named.named κ "scale" 0x41A00000#32 : Ideal .f32) = ((268435456 / 13421773 : ℝ) : EReal) :=
  IdealRules.named_const.ideal_named_scalar _ _ _ _ rfl

/-- The scaled inputs. -/
theorem xsOf_apply (x0 : Vec Ideal S128x2048 .f32) (r : Fin 128) (k : Fin 2048) :
    xsOf x0 (ix2 r k) = x0 (ix2 r k) * ((268435456 / 13421773 : ℝ) : EReal) := by
  rw [← scale_real]
  show k0_pay2 x0 (ix2 r k) = _
  pointwise [k0_pay2]

end Cert.Value

end
-- ==== Proof.Value.Steps.lean ====
/-
  The kernel's steps keep the row invariant: the tail's columns first, then the eight blocks.
-/
module

public import proofs.«01_k».proof.Proof.Value.Merge
public import proofs.«01_k».proof.Proof.Value.Inv
public import proofs.«01_k».proof.Proof.Value.Pays
public import Idealize.ShloMosaic.Lib.StableHlo.Predicate

@[expose] public section

set_option maxRecDepth 16384

noncomputable section

namespace Cert.Value

open Cert.KernelIdeal Cert.KernelIdeal.Gen Cert.KernelIdeal.Hand
open Idealize.ShloMosaic

/-- Choosing by equality of small words. -/
theorem select_eq {A : Type} (a b : ℕ) (ha : a < 2 ^ 32) (hb : b < 2 ^ 32) (p q : A) :
    Scalar.select (IntOp.cmpi .eq (BitVec.ofNat 32 a) (BitVec.ofNat 32 b)) p q = if a = b then p else q := by
  unfold Scalar.select IntOp.cmpi
  have : (BitVec.ofNat 32 a == BitVec.ofNat 32 b) = decide (a = b) := by
    rw [Bool.eq_iff_iff, beq_iff_eq, decide_eq_true_iff]
    refine ⟨fun h => ?_, fun h => by rw [h]⟩
    have := congrArg BitVec.toNat h
    rwa [BitVec.toNat_ofNat, BitVec.toNat_ofNat, Nat.mod_eq_of_lt ha, Nat.mod_eq_of_lt hb] at this
  dsimp only
  rw [this]
  by_cases h : a = b <;> simp [h]

/-- Choosing by order of small words. -/
theorem select_slt {A : Type} (a b : ℕ) (ha : a < 2 ^ 31) (hb : b < 2 ^ 31) (p q : A) :
    Scalar.select (IntOp.cmpi .slt (BitVec.ofNat 32 a) (BitVec.ofNat 32 b)) p q = if a < b then p else q := by
  unfold Scalar.select IntOp.cmpi
  have : (BitVec.ofNat 32 a).slt (BitVec.ofNat 32 b) = decide (a < b) := by
    rw [BitVec.slt, StableHlo.Predicate.toInt_ofNat_small a ha, StableHlo.Predicate.toInt_ofNat_small b hb]
    simp
  dsimp only
  rw [this]
  by_cases h : a < b <;> simp [h]

/-- The columns of a block. -/
def blk (off n : ℕ) : Finset (Fin 16522) := Finset.univ.filter (fun j : Fin 16522 => off ≤ j.val ∧ j.val < off + n)

theorem mem_blk {off n : ℕ} {j : Fin 16522} : j ∈ blk off n ↔ off ≤ j.val ∧ j.val < off + n := by
  unfold blk; rw [Finset.mem_filter]; simp

variable (x : Fin 16522 → ℝ)

/-- The state's row invariant. -/
abbrev RowInv (ℓ : ℕ) (S : Finset (Fin 16522)) (σ : St Ideal) (r : Fin 128) : Prop :=
  Inv x ℓ S (σ.m (ix2 r 0)) (σ.s (ix2 r 0)) (σ.v (ix2 r 0)) (fun j => σ.k (ix2 r j))

theorem row_st0 (ℓ : ℕ) (r : Fin 128) : RowInv x ℓ ∅ (st0 (F := Ideal)) r := by
  have h := Inv.init x ℓ
  unfold RowInv
  rw [st0_m, st0_s, st0_v, show (fun j => (st0 (F := Ideal)).k (ix2 r j)) = fun _ => ⊥ from funext (st0_k r)]
  exact h

/-- A block's scores, by place: the column's value, or `⊥` past the last column. -/
def gOf (off : ℕ) (c : ℕ) : EReal := if hc : off + c < 16522 then ((x ⟨off + c, hc⟩ : ℝ) : EReal) else ⊥

theorem gOf_cases (off n : ℕ) (c : Fin n) : gOf x off c.val = ⊥ ∨ ∃ j ∈ blk off n, gOf x off c.val = ((x j : ℝ) : EReal) := by
  by_cases hc : off + c.val < 16522
  · refine .inr ⟨⟨off + c.val, hc⟩, mem_blk.2 ⟨by simp, by simp⟩, dif_pos hc⟩
  · exact .inl (dif_neg hc)

theorem gOf_hit (off n : ℕ) : ∀ j ∈ blk off n, ∃ c : Fin n, gOf x off c.val = ((x j : ℝ) : EReal) := by
  intro j hj
  obtain ⟨h1, h2⟩ := mem_blk.1 hj
  refine ⟨⟨j.val - off, by omega⟩, ?_⟩
  have e : off + (j.val - off) = j.val := by omega
  have hc : off + (j.val - off) < 16522 := by have := j.isLt; omega
  refine (dif_pos hc).trans ?_
  exact congrArg (fun j => ((x j : ℝ) : EReal)) (Fin.ext e)

theorem gOf_exp (off n : ℕ) (M : ℝ) :
    ∑ c : Fin n, Ideal.exp (gOf x off c.val - (M : EReal)) = ∑ j ∈ blk off n, Ideal.exp ((x j : EReal) - (M : EReal)) := by
  unfold blk
  rw [← sum_block]
  refine Finset.sum_congr rfl fun c _ => ?_
  unfold gOf
  by_cases hc : off + c.val < 16522
  · rw [dif_pos hc, dif_pos hc]
  · rw [dif_neg hc, dif_neg hc, exp_bot_sub]

theorem gOf_label (off n ℓ : ℕ) (hℓ : ℓ < 16522) :
    (∑ c : Fin n, if off + c.val = ℓ then gOf x off c.val else 0) = ∑ j ∈ blk off n, if j.val = ℓ then ((x j : ℝ) : EReal) else 0 := by
  unfold blk
  rw [← sum_block]
  refine Finset.sum_congr rfl fun c _ => ?_
  unfold gOf
  by_cases hc : off + c.val < 16522
  · rw [dif_pos hc, dif_pos hc]
  · rw [dif_neg hc, dif_neg hc, if_neg (by omega)]

/-- The passes below successive bounds give the block's greatest values in order. -/
theorem passes {A : Set EReal} {nx : FVec Ideal S128x1 .f32 → FVec Ideal S128x1 .f32} (r : Fin 128)
    (hnx : ∀ t, nx t (ix2 r 0) = sSup {x | x ∈ A ∧ x < t (ix2 r 0)}) (t : FVec Ideal S128x1 .f32) (ht : t (ix2 r 0) = sSup A) (k : FVec Ideal S128x8 .f32) :
    (∀ i : Fin 8, concat14 k t (nx t) (nx (nx t)) (nx (nx (nx t))) (nx (nx (nx (nx t)))) (nx (nx (nx (nx (nx t))))) (ix2 r ⟨i.val, by omega⟩) = k (ix2 r i)) ∧
    ∀ (i : ℕ) (hi : i ≤ 5), concat14 k t (nx t) (nx (nx t)) (nx (nx (nx t))) (nx (nx (nx (nx t)))) (nx (nx (nx (nx (nx t))))) (ix2 r ⟨8 + i, by omega⟩) = top A i := by
  constructor
  · rintro ⟨i, hi⟩
    dsimp only
    interval_cases i <;> pointwise [concat14]
  · intro i hi
    have h0 : t (ix2 r 0) = top A 0 := ht
    have h1 : nx t (ix2 r 0) = top A 1 := by rw [hnx, h0]; rfl
    have h2 : nx (nx t) (ix2 r 0) = top A 2 := by rw [hnx, h1]; rfl
    have h3 : nx (nx (nx t)) (ix2 r 0) = top A 3 := by rw [hnx, h2]; rfl
    have h4 : nx (nx (nx (nx t))) (ix2 r 0) = top A 4 := by rw [hnx, h3]; rfl
    have h5 : nx (nx (nx (nx (nx t)))) (ix2 r 0) = top A 5 := by rw [hnx, h4]; rfl
    interval_cases i <;> pointwise [concat14] <;> assumption

/-- A tail column's number. -/
theorem add16384 (c : ℕ) : IntOp.addi 16384#32 (BitVec.ofNat 32 c) = BitVec.ofNat 32 (16384 + c) := by
  unfold IntOp.addi
  rw [BitVec.ofNat_add]

/-- The tail's step. -/
theorem row_tail {ℓ : ℕ} (hℓ : ℓ < 16522) {S : Finset (Fin 16522)} (xs : Vec Ideal S128x2048 .f32) (T : Vec Ideal S256x2048 .f32) (lab : Vec Ideal S128x1 .i32)
    (σ : St Ideal) (r : Fin 128)
    (hx : ∀ (c : Fin 256) (hc : 16384 + c.val < 16522), ∑ k : Fin 2048, xs (ix2 r k) * T (ix2 c k) = ((x ⟨16384 + c.val, hc⟩ : ℝ) : EReal))
    (hl : lab (ix2 r 0) = BitVec.ofNat 32 ℓ) (h : RowInv x ℓ S σ r) (hdis : Disjoint S (blk 16384 256)) :
    RowInv x ℓ (S ∪ blk 16384 256) (tailStep xs T lab σ) r := by
  have hg : ∀ c : Fin 256, k0_pay8 xs T (ix2 r c) = gOf x 16384 c.val := by
    intro c
    rw [pay8_apply, add16384]
    refine (select_slt (16384 + c.val) 16522 (by omega) (by omega) _ _).trans ?_
    unfold gOf
    by_cases hc : 16384 + c.val < 16522
    · rw [if_pos hc, dif_pos hc, hx c hc]
    · rw [if_neg hc, dif_neg hc]
  have hgf : (fun c : Fin 256 => k0_pay8 xs T (ix2 r c)) = fun c : Fin 256 => gOf x 16384 c.val := funext hg
  obtain ⟨hu0, hu1⟩ := passes (A := Set.range fun c : Fin 256 => gOf x 16384 c.val) (nx := nx256 (k0_pay8 xs T)) r
    (fun t => by rw [nx256_apply, hgf]) (k0_pay9 xs T) (by rw [pay9_apply, hgf]) σ.k
  unfold RowInv
  rw [show (tailStep xs T lab σ).m (ix2 r 0) = _ from pay12_apply xs T σ.m r, show (tailStep xs T lab σ).s (ix2 r 0) = _ from pay11_apply xs T σ.m σ.s r,
    show (tailStep xs T lab σ).v (ix2 r 0) = _ from pay14_apply (k0_pay8 xs T) σ.v lab r,
    show (tailStep xs T lab σ).k = _ from tail_merge (k0_pay8 xs T) (k0_pay9 xs T) σ.k]
  simp only [hg]
  refine h.step x hdis ⟨⟨16384, by omega⟩, mem_blk.2 ⟨by simp, by simp⟩⟩ (fun c : Fin 256 => gOf x 16384 c.val) (gOf_cases x 16384 256) (gOf_hit x 16384 256)
    (gOf_exp x 16384 256) ?_ (fun c : Fin 14 => concat14 σ.k (k0_pay9 xs T) _ _ _ _ _ (ix2 r c)) hu0 hu1 (fun j hj => top8_apply _ r j hj) (fun j hj => top8_pad _ r j hj)
  rw [hl, ← gOf_label x 16384 256 ℓ hℓ]
  refine Finset.sum_congr rfl fun c _ => ?_
  rw [add16384]
  exact select_eq (16384 + c.val) ℓ (by omega) (by omega) _ _

/-- A chunk's step. -/
theorem row_chunk {ℓ : ℕ} (hℓ : ℓ < 16522) {S : Finset (Fin 16522)} (n : ℕ) (hn : n < 8) (xs : Vec Ideal S128x2048 .f32) (C : Vec Ideal S1x2048x2048 .f32)
    (lab : Vec Ideal S128x1 .i32) (σ : St Ideal) (r : Fin 128)
    (hx : ∀ (c : Fin 2048) (hc : n * 2048 + c.val < 16522), ∑ k : Fin 2048, xs (ix2 r k) * C (ix3 0 c k) = ((x ⟨n * 2048 + c.val, hc⟩ : ℝ) : EReal))
    (hl : lab (ix2 r 0) = BitVec.ofNat 32 ℓ) (h : RowInv x ℓ S σ r) (hdis : Disjoint S (blk (n * 2048) 2048)) :
    RowInv x ℓ (S ∪ blk (n * 2048) 2048) (chunkStep (BitVec.ofNat 32 n) xs C lab σ) r := by
  have hg : ∀ c : Fin 2048, k0_pay19 xs C (ix2 r c) = gOf x (n * 2048) c.val := by
    intro c
    have hc : n * 2048 + c.val < 16522 := by omega
    rw [pay19_apply, hx c hc]
    unfold gOf
    rw [dif_pos hc]
  have hgf : (fun c : Fin 2048 => k0_pay19 xs C (ix2 r c)) = fun c : Fin 2048 => gOf x (n * 2048) c.val := funext hg
  obtain ⟨hu0, hu1⟩ := passes (A := Set.range fun c : Fin 2048 => gOf x (n * 2048) c.val) (nx := k0_pay26 (k0_pay19 xs C)) r
    (fun t => by rw [nx2048_apply, hgf]) (k0_pay21 xs C) (by rw [pay21_apply, hgf]) σ.k
  unfold RowInv
  rw [show (chunkStep (BitVec.ofNat 32 n) xs C lab σ).m (ix2 r 0) = _ from pay24_apply xs C σ.m r, show (chunkStep (BitVec.ofNat 32 n) xs C lab σ).s (ix2 r 0) = _ from pay23_apply xs C σ.m σ.s r,
    show (chunkStep (BitVec.ofNat 32 n) xs C lab σ).v (ix2 r 0) = _ from pay25_apply (k0_pay19 xs C) (BitVec.ofNat 32 n) σ.v lab r,
    show (chunkStep (BitVec.ofNat 32 n) xs C lab σ).k = _ from chunk_merge (k0_pay19 xs C) (k0_pay21 xs C) σ.k]
  simp only [hg]
  refine h.step x hdis ⟨⟨n * 2048, by omega⟩, mem_blk.2 ⟨by simp, by simp⟩⟩ (fun c : Fin 2048 => gOf x (n * 2048) c.val) (gOf_cases x (n * 2048) 2048) (gOf_hit x (n * 2048) 2048)
    (gOf_exp x (n * 2048) 2048) ?_ (fun c : Fin 14 => concat14 σ.k (k0_pay21 xs C) _ _ _ _ _ (ix2 r c)) hu0 hu1 (fun j hj => top8_apply _ r j hj) (fun j hj => top8_pad _ r j hj)
  rw [hl, ← gOf_label x (n * 2048) 2048 ℓ hℓ]
  refine Finset.sum_congr rfl fun c _ => ?_
  have e : IntOp.addi (Scalar.muli (BitVec.ofNat 32 n) 2048#32) (BitVec.ofNat 32 c.val) = BitVec.ofNat 32 (n * 2048 + c.val) := by
    unfold IntOp.addi Scalar.muli IntOp.muli
    rw [BitVec.ofNat_add, BitVec.ofNat_mul]
  rw [e]
  exact select_eq (n * 2048 + c.val) ℓ (by omega) (by omega) _ _

/-- The tail and the first `n` blocks. -/
def colsUpTo : ℕ → Finset (Fin 16522)
  | 0 => ∅ ∪ blk 16384 256
  | n + 1 => colsUpTo n ∪ blk (n * 2048) 2048

theorem mem_cols {n : ℕ} (hn : n ≤ 8) {j : Fin 16522} : j ∈ colsUpTo n ↔ 16384 ≤ j.val ∨ j.val < n * 2048 := by
  induction n with
  | zero => unfold colsUpTo; rw [Finset.mem_union, mem_blk]; simp; omega
  | succ n ih => unfold colsUpTo; rw [Finset.mem_union, mem_blk, ih (by omega)]; omega

theorem cols_all : colsUpTo 8 = Finset.univ := by
  ext j
  rw [mem_cols le_rfl]
  simp; omega

/-- The row after the whole pass. -/
theorem row_all {ℓ : ℕ} (hℓ : ℓ < 16522) (c : Dev nD) (W : HbBuf0 (F := Ideal) c hbM0_0) (xs : Vec Ideal S128x2048 .f32) (T : Vec Ideal S256x2048 .f32)
    (lab : Vec Ideal S128x1 .i32) (r : Fin 128)
    (hT : ∀ (i : Fin 256) (hi : 16384 + i.val < 16522), ∑ k : Fin 2048, xs (ix2 r k) * T (ix2 i k) = ((x ⟨16384 + i.val, hi⟩ : ℝ) : EReal))
    (hW : ∀ j : Fin 16522, ∑ k : Fin 2048, xs (ix2 r k) * emAt c W (ix2 j k) = ((x j : ℝ) : EReal))
    (hl : lab (ix2 r 0) = BitVec.ofNat 32 ℓ) : RowInv x ℓ Finset.univ (stAt c W xs T lab 8) r := by
  have key : ∀ n ≤ 8, RowInv x ℓ (colsUpTo n) (stAt c W xs T lab n) r := by
    intro n
    induction n with
    | zero => intro _; exact row_tail x hℓ xs T lab st0 r hT hl (row_st0 x ℓ r) (Finset.disjoint_empty_left _)
    | succ n ih =>
      intro hn
      refine row_chunk x hℓ n (by omega) xs _ lab _ r ?_ hl (ih (by omega)) ?_
      · intro i hi
        rw [← hW]
        refine Finset.sum_congr rfl fun k _ => ?_
        have hb : (Ring.bk 8 n).val = n := Ring.bk_val (by omega)
        refine congrArg (xs (ix2 r k) * ·) (congrArg (emAt c W) ?_)
        refine congrArg₂ ix2 (Fin.ext ?_) rfl
        show 2048 * (Ring.bk 8 n).val + i.val = n * 2048 + i.val
        omega
      · rw [Finset.disjoint_left]
        intro j hj hj'
        rw [mem_cols (by omega)] at hj
        rw [mem_blk] at hj'
        omega
  have := key 8 le_rfl
  rw [cols_all] at this
  exact this

end Cert.Value

end
-- ==== Proof.Value.Sort.lean ====
/-
  The reference's top list of a row: a permutation of the columns in decreasing order of score.
-/
module

public import proofs.«01_k».proof.Proof.Value.Top
public import Idealize.ShloMosaic.PureOps.Ideal
public import Idealize.ShloMosaic.PureOps.Ideal.Laws
public import Idealize.ShloMosaic.Lib.SortFacts
public import Idealize.ShloMosaic.Lib.Pointwise

@[expose] public section

set_option maxRecDepth 16384

noncomputable section

namespace Cert.Value

open Idealize.ShloMosaic

variable {R C : ℕ}

/-- The scores' shape. -/
abbrev SX (R C : ℕ) : Shape := ⟨2, ![R, C]⟩

/-- The columns of row `r` in decreasing order. -/
def rowSort (X : FVec Ideal (SX R C) .f32) (r : Fin R) : Fin C → Fin C :=
  sortedFrom (fun k k' => (FloatOps.cmpfTotal .gt (X (ix2 r k)) (X (ix2 r k')) : BitVec 1) == 1#1)

theorem along_row {A : Type} (X : (SX R C).Idx → A) (r : Fin R) (i k : Fin C) (h1 : 1 < (SX R C).rank) :
    X (Shape.Idx.along (s := SX R C) (ix2 r i) ⟨1, h1⟩ k) = X (ix2 r k) := by
  refine congrArg X (funext fun a => ?_)
  match a with
  | ⟨0, _⟩ => rfl
  | ⟨1, _⟩ => rfl

theorem slice_row {A : Type} (n : ℕ) (hn : n ≤ C) (Y : (SX R C).Idx → A) (h : (SX R C).Slices (fun _ => 0) (SX R n)) (r : Fin R) (i : Fin n) :
    extractStridedSlice (SX R n) (fun _ => 0) Y h (ix2 r i) = Y (ix2 r (i.castLE hn)) := by
  refine congrArg Y (funext fun a => Fin.ext ?_)
  match a with
  | ⟨0, _⟩ => exact Nat.zero_add _
  | ⟨1, _⟩ => exact Nat.zero_add _

/-- The sorted pair at a row's place. -/
theorem sort2_row {B : Type} (X : FVec Ideal (SX R C) .f32) (y : (SX R C).Idx → B) (r : Fin R) (i : Fin C) :
    (Host.sort2 (SX R C) 1 (fun l r => FloatOps.cmpfTotal .gt l.1 r.1) X y).1 (ix2 r i) = X (ix2 r (rowSort X r i)) ∧
    (Host.sort2 (SX R C) 1 (fun l r => FloatOps.cmpfTotal .gt l.1 r.1) X y).2 (ix2 r i) = y (ix2 r (rowSort X r i)) := by
  have h1 : 1 < (SX R C).rank := Nat.lt_succ_self 1
  have hs : sortedFrom (fun k k' : Fin C => (FloatOps.cmpfTotal .gt (X (Shape.Idx.along (s := SX R C) (ix2 r i) ⟨1, h1⟩ k)) (X (Shape.Idx.along (s := SX R C) (ix2 r i) ⟨1, h1⟩ k')) : BitVec 1) == 1#1) = rowSort X r := by
    unfold rowSort
    simp only [along_row]
  have e : Host.sort2 (SX R C) 1 (fun l r => FloatOps.cmpfTotal .gt l.1 r.1) X y = _ := dif_pos h1
  rw [e]
  dsimp only
  constructor
  · refine (along_row X r i _ h1).trans ?_
    exact congrArg (fun σ : Fin C → Fin C => X (ix2 r (σ i))) hs
  · refine (along_row y r i _ h1).trans ?_
    exact congrArg (fun σ : Fin C → Fin C => y (ix2 r (σ i))) hs

/-- The values listed. -/
theorem topK_values (n : ℕ) (hn : n ≤ C) (X : FVec Ideal (SX R C) .f32) (h : (SX R C).Slices (fun _ => 0) (SX R n)) (r : Fin R) (i : Fin n) :
    (Host.topK (SX R n) 1 (FloatOps.cmpfTotal .gt) X h).1 (ix2 r i) = X (ix2 r (rowSort X r (i.castLE hn))) := by
  unfold Host.topK
  dsimp only
  rw [slice_row n hn]
  exact (sort2_row X _ r _).1

/-- The columns listed. -/
theorem topK_indices (n : ℕ) (hn : n ≤ C) (X : FVec Ideal (SX R C) .f32) (h : (SX R C).Slices (fun _ => 0) (SX R n)) (r : Fin R) (i : Fin n) :
    (Host.topK (SX R n) 1 (FloatOps.cmpfTotal .gt) X h).2 (ix2 r i) = BitVec.ofNat 32 (rowSort X r (i.castLE hn)).val := by
  unfold Host.topK
  dsimp only
  rw [slice_row n hn]
  exact (sort2_row X _ r _).2

theorem rowSort_surjective (X : FVec Ideal (SX R C) .f32) (r : Fin R) : Function.Surjective (rowSort X r) := sortedFrom_surjective _
theorem rowSort_injective (X : FVec Ideal (SX R C) .f32) (r : Fin R) : Function.Injective (rowSort X r) := sortedFrom_injective _

/-- Later columns have no greater score. -/
theorem rowSort_anti (X : FVec Ideal (SX R C) .f32) (r : Fin R) (i j : Fin C) (hij : i < j) :
    X (ix2 r (rowSort X r j)) ≤ X (ix2 r (rowSort X r i)) := by
  have e : ∀ a b : EReal, ((FloatOps.cmpfTotal (F := Ideal) (φ := .f32) .gt a b : BitVec 1) == 1#1) = decide (b < a) := by
    intro a b
    show (Ideal.cmpTotal .gt a b == 1#1) = _
    unfold Ideal.cmpTotal Ideal.cmp CmpDirection.ordered
    dsimp only
    by_cases h : b < a <;> simp [h]
  have hR : rowSort X r = sortedFrom (fun k k' => decide (X (ix2 r k') < X (ix2 r k))) := by
    unfold rowSort
    refine congrArg sortedFrom (funext fun k => funext fun k' => e _ _)
  have := sortedFrom_noInversion (fun k k' => decide ((X (ix2 r k') : EReal) < X (ix2 r k))) (fun k k' => decide ((X (ix2 r k') : EReal) < X (ix2 r k)))
    (fun a b h => decide_eq_false (not_lt.2 (le_of_lt (of_decide_eq_true h)))) (fun a b h => h)
    (fun a b c h h' => decide_eq_false (not_lt.2 ((not_lt.1 (of_decide_eq_false h)).trans (not_lt.1 (of_decide_eq_false h'))))) i j hij
  rw [hR]
  exact not_lt.1 (of_decide_eq_false this)

end Cert.Value

end
-- ==== Proof.Value.Mask.lean ====
/-
  The reference's weights: three at the label, two at the six listed columns, zero elsewhere.
-/
module

public import proofs.«01_k».proof.Proof.Value.Sort
public import proofs.«01_k».proof.Proof.Gen.ReferenceIdeal.Read
public import Idealize.ShloMosaic.Lib.Routing.OpsSet
public import Idealize.ShloMosaic.Lib.Routing.OpsPair
public import Idealize.ShloMosaic.Lib.StableHlo.Predicate
public import Idealize.ShloMosaic.Lib.Pointwise

@[expose] public section

set_option maxRecDepth 16384

noncomputable section

namespace Cert.Value

open Cert.ReferenceIdeal Cert.ReferenceIdeal.Gen Cert.ReferenceIdeal.Read
open Idealize.ShloMosaic

/-- Update `a` of a scatter of `A` scalars into a matrix lands at `(r, c)` exactly when its two words are `r` and `c`. -/
theorem scatter_lands1 {R C A w : Nat} (d : ScatterDims ⟨2, ![R, C]⟩ ⟨2, ![A, 2]⟩ ⟨1, ![A]⟩) (hiw : d.insertedWindowDims = [0, 1])
    (hsd : d.scatterDimsToOperandDims = [0, 1]) (hivd : d.indexVectorDim = 1) (idx : IVec ⟨2, ![A, 2]⟩ w)
    (a : Fin A) (r : Fin R) (c : Fin C) :
    d.resultIdx? (ix1 a) idx = some (ix2 r c) ↔ (idx (ix2 a 0)).toInt = r.val ∧ (idx (ix2 a 1)).toInt = c.val := by
  have huw : d.updateWindowDims = [] := List.eq_nil_of_length_eq_zero (by
    rw [d.window_length]
    show ((⟨2, ![R, C]⟩ : Shape).kept d.insertedWindowDims).length = 0
    rw [hiw]
    rfl)
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2, d.siIdx (ix1 a) ⟨d.scatterDimsToOperandDims.idxOf q, List.idxOf_lt_length_iff.2 (hm q)⟩ = ix2 a q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      have hz : ∀ z : Fin 1, ((ix1 a : (⟨1, ![A]⟩ : Shape).Idx) z).val = a.val := fun z => by
        rw [Subsingleton.elim z 0]
        rfl
      exact hz _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  refine (Routing.resultIdx?_ix2 d (ix1 a) idx r c).trans ?_
  rw [hstart, hstart, hwin, hwin]
  omega

/-- A small word is not wrapped. -/
theorem wrap_small (n : ℕ) (h : n < 2 ^ 31) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat]
  omega

variable (x0 : FVec Ideal ⟨2, ![128, 2048]⟩ .f32) (x1 : IVec ⟨1, ![128]⟩ 32) (x3 : FVec Ideal ⟨2, ![16522, 2048]⟩ .f32)

/-- The rows of the listed columns. -/
theorem v18_row (r : Fin 128) (i : Fin 6) : val_main_v18 (F := Ideal) (ix3 r i 0) = BitVec.ofNat 32 r.val := by
  rw [val_main_v18_apply, val_main_v17_apply, val_main_v11_apply, val_main_v8_apply, val_main_v6_apply, val_main_v7_apply, val_main_c_apply, val_main_v5_apply]
  exact wrap_small r.val (by omega) _

/-- The listed columns. -/
theorem v19_col (r : Fin 128) (i : Fin 6) :
    val_main_v19 (F := Ideal) x0 x3 (ix3 r i 0) = BitVec.ofNat 32 (rowSort (val_main_v3 (F := Ideal) x0 x3) r (i.castLE (by omega))).val := by
  have e : val_main_indices (F := Ideal) x0 x3 (ix2 r i) = BitVec.ofNat 32 (rowSort (val_main_v3 (F := Ideal) x0 x3) r (i.castLE (by omega))).val :=
    topK_indices 6 (by omega) (val_main_v3 (F := Ideal) x0 x3) sliceFits_S128x16522_S128x6 r i
  have ei : idx_main_v19 (ix3 r i 0) = ix2 r i := funext fun a => match a with
    | ⟨0, _⟩ => rfl
    | ⟨1, _⟩ => rfl
  rw [val_main_v19_apply, ei, val_main_v16_apply, val_main_v13_apply, val_main_v12_apply, val_main_c_2_apply, e]
  exact wrap_small _ (lt_trans (Fin.isLt _) (by omega)) _

theorem v34_row (r : Fin 128) : val_main_v34 (F := Ideal) (ix2 r 0) = BitVec.ofNat 32 r.val := by
  rw [val_main_v34_apply, val_main_v28_apply, val_main_v25_apply, val_main_v23_apply, val_main_v24_apply, val_main_c_5_apply]
  exact wrap_small r.val (by omega) _

theorem v35_col (r : Fin 128) (ℓ : ℕ) (hℓ : ℓ < 16522) (h : x1 (ix1 r) = BitVec.ofNat 32 ℓ) :
    val_main_v35 (F := Ideal) x1 (ix2 r 0) = BitVec.ofNat 32 ℓ := by
  have ei : idx_main_v35 (ix2 r 0) = ix1 r := funext fun a => match a with
    | ⟨0, _⟩ => rfl
  rw [val_main_v35_apply, ei, val_main_v33_apply, val_main_v30_apply, val_main_v29_apply, val_main_c_7_apply, h]
  exact wrap_small _ (by omega) _

theorem v20_0 (r : Fin 128) (i : Fin 6) : val_main_v20 (F := Ideal) x0 x3 (ix3 r i 0) = BitVec.ofNat 32 r.val := by
  rw [← v18_row r i]
  exact concatenate_pair_apply_left (t := S128x6x2) (s₁ := S128x6x1) (s₂ := S128x6x1) (2 : Fin 3) (val_main_v18 (F := Ideal)) (val_main_v19 (F := Ideal) x0 x3) concatenates_S128x6x1_S128x6x1_S128x6x2_d2 (ix3 r i (0 : Fin 2)) rfl (ix3 r i (0 : Fin 1))
    (fun b => match b with
      | ⟨0, _⟩ => rfl
      | ⟨1, _⟩ => rfl
      | ⟨2, _⟩ => rfl)

theorem v20_1 (r : Fin 128) (i : Fin 6) :
    val_main_v20 (F := Ideal) x0 x3 (ix3 r i 1) = BitVec.ofNat 32 (rowSort (val_main_v3 (F := Ideal) x0 x3) r (i.castLE (by omega))).val := by
  rw [← v19_col x0 x3 r i]
  exact concatenate_pair_apply_right (t := S128x6x2) (s₁ := S128x6x1) (s₂ := S128x6x1) (2 : Fin 3) (val_main_v18 (F := Ideal)) (val_main_v19 (F := Ideal) x0 x3) concatenates_S128x6x1_S128x6x1_S128x6x2_d2 (ix3 r i (1 : Fin 2)) rfl rfl (ix3 r i (0 : Fin 1))
    (fun b hb => match b, hb with
      | ⟨0, _⟩, _ => rfl
      | ⟨1, _⟩, _ => rfl
      | ⟨2, _⟩, hb => absurd rfl hb) rfl

theorem v36_0 (r : Fin 128) : val_main_v36 (F := Ideal) x1 (ix2 r 0) = BitVec.ofNat 32 r.val := by
  rw [← v34_row r]
  exact concatenate_pair_apply_left (t := S128x2) (s₁ := S128x1) (s₂ := S128x1) (1 : Fin 2) (val_main_v34 (F := Ideal)) (val_main_v35 (F := Ideal) x1) concatenates_S128x1_S128x1_S128x2_d1 (ix2 r (0 : Fin 2)) rfl (ix2 r (0 : Fin 1))
    (fun b => match b with
      | ⟨0, _⟩ => rfl
      | ⟨1, _⟩ => rfl)

theorem v36_1 (r : Fin 128) (ℓ : ℕ) (hℓ : ℓ < 16522) (h : x1 (ix1 r) = BitVec.ofNat 32 ℓ) :
    val_main_v36 (F := Ideal) x1 (ix2 r 1) = BitVec.ofNat 32 ℓ := by
  rw [← v35_col x1 r ℓ hℓ h]
  exact concatenate_pair_apply_right (t := S128x2) (s₁ := S128x1) (s₂ := S128x1) (1 : Fin 2) (val_main_v34 (F := Ideal)) (val_main_v35 (F := Ideal) x1) concatenates_S128x1_S128x1_S128x2_d1 (ix2 r (1 : Fin 2)) rfl rfl (ix2 r (0 : Fin 1))
    (fun b hb => match b, hb with
      | ⟨0, _⟩, _ => rfl
      | ⟨1, _⟩, hb => absurd rfl hb) rfl

theorem bits_two : Ideal.ofBits .f32 0x40000000#32 = ((2 : ℝ) : EReal) := by
  simp [Ideal.ofBits, Ideal.ieee]
  norm_cast
  norm_num

theorem bits_three : Ideal.ofBits .f32 0x40400000#32 = ((3 : ℝ) : EReal) := by
  simp [Ideal.ofBits, Ideal.ieee]
  norm_cast
  norm_num

/-- The weights after the first scatter. -/
theorem v22_apply (r : Fin 128) (j : Fin 16522) [Decidable (∃ i : Fin 6, rowSort (val_main_v3 (F := Ideal) x0 x3) r (i.castLE (by omega)) = j)] :
    val_main_v22 (F := Ideal) x0 x3 (ix2 r j) = ((if ∃ i : Fin 6, rowSort (val_main_v3 (F := Ideal) x0 x3) r (i.castLE (by omega)) = j then 2 else 0 : ℝ) : EReal) := by
  have hl : ∀ (a : Fin 128) (b : Fin 6), scatter_S128x16522_S128x6x2_S128x6_n_01_01_2.resultIdx? (ix2 a b) (val_main_v20 (F := Ideal) x0 x3) = some (ix2 r j) ↔
      a = r ∧ rowSort (val_main_v3 (F := Ideal) x0 x3) a (b.castLE (by omega)) = j := by
    intro a b
    refine (Routing.scatter_lands2 scatter_S128x16522_S128x6x2_S128x6_n_01_01_2 rfl rfl rfl (val_main_v20 (F := Ideal) x0 x3) a b r j).trans ?_
    have e0 := v20_0 x0 x3 a b
    have e1 := v20_1 x0 x3 a b
    refine Iff.trans (b := (BitVec.ofNat 32 a.val).toInt = r.val ∧ (BitVec.ofNat 32 (rowSort (val_main_v3 (F := Ideal) x0 x3) a (b.castLE (by omega))).val).toInt = j.val) ?_ ?_
    · rw [← e0, ← e1]
      exact Iff.rfl
    · rw [StableHlo.Predicate.toInt_ofNat_small _ (by omega), StableHlo.Predicate.toInt_ofNat_small _ (lt_trans (Fin.isLt _) (by omega))]
      rw [Fin.ext_iff, Fin.ext_iff]
      omega
  split
  · rename_i h
    obtain ⟨i, hi⟩ := h
    refine Routing.scatter_set_hit _ _ _ _ _ _ (fun k _ => ?_) (ix2 r i) ((hl r i).2 ⟨rfl, hi⟩)
    rw [val_main_v21_apply, val_main_cst_4_apply]
    exact bits_two
  · rename_i h
    refine (Routing.scatter_set_miss _ _ _ _ _ (fun k hk => h ?_)).trans ?_
    · obtain ⟨a, b, rfl⟩ : ∃ a b, k = ix2 a b := ⟨k 0, k 1, (ix2_eta k).symm⟩
      obtain ⟨rfl, hj⟩ := (hl a b).1 hk
      exact ⟨b, hj⟩
    · rw [val_main_v4_apply, val_main_cst_0_apply]
      exact Ideal.ofBits_zero_f32

/-- The weights. -/
theorem mask_apply (ℓ : Fin 128 → ℕ) (hℓ : ∀ r, ℓ r < 16522) (hx : ∀ r, x1 (ix1 r) = BitVec.ofNat 32 (ℓ r)) (r : Fin 128) (j : Fin 16522)
    [Decidable (∃ i : Fin 6, rowSort (val_main_v3 (F := Ideal) x0 x3) r (i.castLE (by omega)) = j)] :
    val_main_v38 (F := Ideal) x0 x1 x3 (ix2 r j) =
      ((if j.val = ℓ r then 3 else if ∃ i : Fin 6, rowSort (val_main_v3 (F := Ideal) x0 x3) r (i.castLE (by omega)) = j then 2 else 0 : ℝ) : EReal) := by
  have hl : ∀ (a : Fin 128), scatter_S128x16522_S128x2_S128_n_01_01_1.resultIdx? (ix1 a) (val_main_v36 (F := Ideal) x1) = some (ix2 r j) ↔ a = r ∧ j.val = ℓ a := by
    intro a
    refine (scatter_lands1 scatter_S128x16522_S128x2_S128_n_01_01_1 rfl rfl rfl (val_main_v36 (F := Ideal) x1) a r j).trans ?_
    rw [v36_0, v36_1 x1 a (ℓ a) (hℓ a) (hx a), StableHlo.Predicate.toInt_ofNat_small _ (by omega), StableHlo.Predicate.toInt_ofNat_small _ (lt_trans (hℓ a) (by omega))]
    rw [Fin.ext_iff]
    omega
  by_cases h : j.val = ℓ r
  · rw [if_pos h]
    refine Routing.scatter_set_hit _ _ _ _ _ _ (fun k _ => ?_) (ix1 r) ((hl r).2 ⟨rfl, h⟩)
    rw [val_main_v37_apply, val_main_cst_9_apply]
    exact bits_three
  · rw [if_neg h, ← v22_apply]
    refine Routing.scatter_set_miss _ _ _ _ _ (fun k hk => h ?_)
    obtain ⟨a, rfl⟩ : ∃ a, k = ix1 a := ⟨k 0, (ix1_eta k).symm⟩
    obtain ⟨rfl, hj⟩ := (hl a).1 hk
    exact hj

end Cert.Value

end
-- ==== Proof.Value.Ref.lean ====
/-
  The reference's rows, read as reals.
-/
module

public import proofs.«01_k».proof.Proof.Value.Mask
public import proofs.«01_k».proof.Proof.Value.Inv

@[expose] public section

set_option maxRecDepth 16384

noncomputable section

namespace Cert.Value

open Cert.ReferenceIdeal Cert.ReferenceIdeal.Gen Cert.ReferenceIdeal.Read
open Idealize.ShloMosaic

/-- The logarithm of a positive real. -/
theorem log_coe (a : ℝ) (h : 0 < a) : Ideal.log (a : EReal) = ((Real.log a : ℝ) : EReal) := by
  show (if a ≤ 0 then (⊥ : EReal) else _) = _
  rw [if_neg (not_le.2 h)]

theorem bits_neg_inf : Ideal.ofBits .f32 0xFF800000#32 = (⊥ : EReal) := by simp [Ideal.ofBits, Ideal.ieee]

variable (x0 : FVec Ideal ⟨2, ![128, 2048]⟩ .f32) (x1 : IVec ⟨1, ![128]⟩ 32) (x3 : FVec Ideal ⟨2, ![16522, 2048]⟩ .f32)

/-- The reference's scores. -/
theorem v3_real (p : Fin 128 → Fin 2048 → ℝ) (q : Fin 16522 → Fin 2048 → ℝ) (hp : ∀ r k, x0 (ix2 r k) = (p r k : EReal))
    (hq : ∀ j k, x3 (ix2 j k) = (q j k : EReal)) (r : Fin 128) (j : Fin 16522) :
    val_main_v3 (F := Ideal) x0 x3 (ix2 r j) = (((∑ k, p r k * q j k) * (268435456 / 13421773) : ℝ) : EReal) := by
  have hd : Ideal.ofBits .f32 0x3D4CCCCD#32 = ((13421773 / 268435456 : ℝ) : EReal) := by
    simp [Ideal.ofBits, Ideal.ieee]
    norm_cast
  have e1 : val_main_v1 (F := Ideal) x0 x3 (ix2 r j) = ((∑ k, p r k * q j k : ℝ) : EReal) := by
    rw [val_main_v1_apply, coe_sum]
    refine Finset.sum_congr rfl fun k _ => ?_
    rw [val_main_v0_apply, EReal.coe_mul, ← hp, ← hq]
    refine congrArg₂ (· * ·) (congrArg x0 ?_) (congrArg x3 ?_) <;> exact funext fun a => match a with
      | ⟨0, _⟩ => rfl
      | ⟨1, _⟩ => rfl
  rw [val_main_v3_apply, e1, val_main_v2_apply, val_main_cst_apply]
  refine (congrArg (Ideal.div ((∑ k, p r k * q j k : ℝ) : EReal)) hd).trans ?_
  unfold Ideal.div
  rw [if_neg (by norm_cast; norm_num), ← EReal.coe_inv, ← EReal.coe_mul]
  norm_num

/-- The row's maximum. -/
theorem call0_v0_apply (r : Fin 128) :
    val_main_call0_v0 (F := Ideal) x0 x3 (ix1 r) = sSup (Set.range fun j : Fin 16522 => val_main_v3 (F := Ideal) x0 x3 (ix2 r j)) := by
  rw [← fold_max]
  unfold val_main_call0_v0
  generalize val_main_v3 (F := Ideal) x0 x3 = X
  pointwise [val_main_call0_cst]
  rw [bits_neg_inf]

variable (x : Fin 128 → Fin 16522 → ℝ) (hx : ∀ r j, val_main_v3 (F := Ideal) x0 x3 (ix2 r j) = (x r j : EReal))
include hx

theorem row_sup (r : Fin 128) : val_main_call0_v0 (F := Ideal) x0 x3 (ix1 r) = sSup (img (x r) Finset.univ) := by
  rw [call0_v0_apply]
  unfold img
  rw [Finset.coe_univ, Set.image_univ]
  exact congrArg (fun f => sSup (Set.range f)) (funext fun j => hx r j)

/-- The centred scores. -/
theorem call0_v5_real (r : Fin 128) (M : ℝ) (hM : sSup (img (x r) Finset.univ) = (M : EReal)) (j : Fin 16522) :
    val_main_call0_v5 (F := Ideal) x0 x3 (ix2 r j) = ((x r j - M : ℝ) : EReal) := by
  have e2 : val_main_call0_v2 (F := Ideal) x0 x3 (ix1 r) = (M : EReal) := by
    rw [val_main_call0_v2_apply, val_main_call0_v1_apply, val_main_call0_cst_0_apply, row_sup x0 x3 x hx, hM]
    refine (congrArg (fun b : EReal => max b (M : EReal)) bits_neg_inf).trans ?_
    exact max_eq_right bot_le
  have e4 : val_main_call0_v4 (F := Ideal) x0 x3 (ix2 r j) = (M : EReal) := by
    rw [val_main_call0_v4_apply, val_main_call0_v3_apply, ← e2]
    exact congrArg (val_main_call0_v2 (F := Ideal) x0 x3) (funext fun a => match a with | ⟨0, _⟩ => rfl)
  rw [val_main_call0_v5_apply, e4, hx]
  exact (EReal.coe_sub _ _).symm

/-- The row's log-sum. -/
theorem call0_v10_real (r : Fin 128) (M : ℝ) (hM : sSup (img (x r) Finset.univ) = (M : EReal)) (j : Fin 16522) :
    val_main_call0_v10 (F := Ideal) x0 x3 (ix2 r j) = ((Real.log (∑ k, Real.exp (x r k - M)) : ℝ) : EReal) := by
  have e7 : val_main_call0_v7 (F := Ideal) x0 x3 (ix1 r) = ((∑ k, Real.exp (x r k - M) : ℝ) : EReal) := by
    rw [val_main_call0_v7_apply, val_main_call0_cst_1_apply, coe_sum]
    refine (congrArg₂ (fun a b : EReal => a + b) Ideal.ofBits_zero_f32 (Finset.sum_congr rfl fun k _ => ?_)).trans (zero_add _)
    have ei : idx_main_call0_v7 (ix1 r) k = ix2 r k := funext fun a => match a with
      | ⟨0, _⟩ => rfl
      | ⟨1, _⟩ => rfl
    rw [ei, val_main_call0_v6_apply, call0_v5_real x0 x3 x hx r M hM]
    rfl
  have e8 : val_main_call0_v9 (F := Ideal) x0 x3 (ix2 r 0) = ((Real.log (∑ k, Real.exp (x r k - M)) : ℝ) : EReal) := by
    have ei : idx_main_call0_v8 (ix2 r 0) = ix1 r := funext fun a => match a with | ⟨0, _⟩ => rfl
    rw [val_main_call0_v9_apply, val_main_call0_v8_apply, ei, e7]
    exact log_coe _ (Finset.sum_pos (fun k _ => Real.exp_pos _) ⟨0, Finset.mem_univ _⟩)
  have ei : idx_main_call0_v10 (ix2 r j) = ix2 r 0 := funext fun a => match a with
    | ⟨0, _⟩ => rfl
    | ⟨1, _⟩ => rfl
  rw [val_main_call0_v10_apply, ei, e8]

/-- The row's loss. -/
theorem v42_real (ℓ : Fin 128 → ℕ) (hℓ : ∀ r, ℓ r < 16522) (hl : ∀ r, x1 (ix1 r) = BitVec.ofNat 32 (ℓ r)) (r : Fin 128)
    (M : ℝ) (hM : sSup (img (x r) Finset.univ) = (M : EReal))
    [∀ j, Decidable (∃ i : Fin 6, rowSort (val_main_v3 (F := Ideal) x0 x3) r (i.castLE (by omega)) = j)] :
    val_main_v42 (F := Ideal) x0 x1 x3 (ix1 r) = ((∑ j, -((if j.val = ℓ r then (3 : ℝ) else if ∃ i : Fin 6, rowSort (val_main_v3 (F := Ideal) x0 x3) r (i.castLE (by omega)) = j then 2 else 0)
      * (x r j - M - Real.log (∑ k, Real.exp (x r k - M)))) : ℝ) : EReal) := by
  rw [val_main_v42_apply, val_main_cst_10_apply, coe_sum]
  refine (congrArg₂ (fun a b : EReal => a + b) Ideal.ofBits_zero_f32 (Finset.sum_congr rfl fun j _ => ?_)).trans (zero_add _)
  have ei : idx_main_v42 (ix1 r) j = ix2 r j := funext fun a => match a with
    | ⟨0, _⟩ => rfl
    | ⟨1, _⟩ => rfl
  rw [ei, val_main_v41_apply, val_main_v40_apply, val_main_v39_apply, mask_apply x0 x1 x3 ℓ hℓ hl, call0_v5_real x0 x3 x hx r M hM, call0_v10_real x0 x3 x hx r M hM,
    EReal.coe_neg, EReal.coe_mul, EReal.coe_sub (x r j - M)]
  rfl

omit hx in
/-- The reference's result. -/
theorem v44_real : val_main_v44 (F := Ideal) x0 x1 x3 = fun _ => Ideal.div (∑ r : Fin 128, val_main_v42 (F := Ideal) x0 x1 x3 (ix1 r)) (Ideal.ofBits .f32 0x43000000#32) := by
  funext i
  rw [val_main_v44_apply, val_main_v43_apply, val_main_cst_11_apply, val_main_cst_12_apply]
  refine congrArg (fun a : EReal => Ideal.div a (Ideal.ofBits .f32 0x43000000#32)) ?_
  refine (congrArg (fun a : EReal => a + _) Ideal.ofBits_zero_f32).trans ((zero_add _).trans ?_)
  exact sum_idx1 _

end Cert.Value

end
-- ==== Proof.Value.Row.lean ====
/-
  One row's loss, from its sorted scores.
-/
module

public import proofs.«01_k».proof.Proof.Value.Inv
public import Mathlib.Tactic.Ring
public import Mathlib.Tactic.FieldSimp

@[expose] public section

noncomputable section

namespace Cert.Value

open Finset

/-- A weighted sum with weight two on six columns and three at the label. -/
theorem weighted_sum {N : ℕ} (τ : Fin 6 → Fin N) (hτ : Function.Injective τ) (l : Fin N) (f : Fin N → ℝ)
    [∀ j, Decidable (∃ i, τ i = j)] :
    ∑ j, (if j.val = l.val then (3 : ℝ) else if ∃ i, τ i = j then 2 else 0) * f j
      = 2 * ∑ i, f (τ i) + (if ∃ i, τ i = l then f l else 3 * f l) := by
  have h1 : ∑ j, (if ∃ i, τ i = j then (2 : ℝ) else 0) * f j = 2 * ∑ i, f (τ i) := by
    have e : ∀ j, (if ∃ i, τ i = j then (2 : ℝ) else 0) * f j = if j ∈ univ.image τ then 2 * f j else 0 := by
      intro j
      have : j ∈ univ.image τ ↔ ∃ i, τ i = j := by simp
      by_cases h : ∃ i, τ i = j
      · rw [if_pos h, if_pos (this.2 h)]
      · rw [if_neg h, if_neg (fun q => h (this.1 q)), zero_mul]
    rw [Finset.sum_congr rfl fun j _ => e j, Finset.sum_ite_mem, Finset.univ_inter, Finset.sum_image (fun a _ b _ q => hτ q), Finset.mul_sum]
  have h2 : ∀ j, (if j.val = l.val then (3 : ℝ) else if ∃ i, τ i = j then 2 else 0) * f j
      = (if ∃ i, τ i = j then (2 : ℝ) else 0) * f j + if j = l then (3 - if ∃ i, τ i = l then 2 else 0) * f l else 0 := by
    intro j
    by_cases h : j = l
    · subst h
      rw [if_pos rfl, if_pos rfl]
      ring
    · rw [if_neg (fun q => h (Fin.ext q)), if_neg h, add_zero]
  rw [Finset.sum_congr rfl fun j _ => h2 j, Finset.sum_add_distrib, h1, Finset.sum_ite_eq' univ l, if_pos (Finset.mem_univ _)]
  split <;> ring

/-- The label is among the six listed columns exactly when its score reaches the sixth. -/
theorem listed_iff {N : ℕ} (hN : 6 < N) (x : Fin N → ℝ) (σ : Fin N → Fin N) (hs : Function.Surjective σ)
    (hanti : ∀ i j, i < j → x (σ j) ≤ x (σ i)) (hstrict : x (σ ⟨6, hN⟩) < x (σ ⟨5, by omega⟩)) (l : Fin N) :
    (∃ i : Fin 6, σ (i.castLE (by omega)) = l) ↔ x (σ ⟨5, by omega⟩) ≤ x l := by
  have hle : ∀ i j, i ≤ j → x (σ j) ≤ x (σ i) := fun i j h => by
    rcases h.lt_or_eq with h | h
    · exact hanti i j h
    · rw [h]
  constructor
  · rintro ⟨i, rfl⟩
    exact hle _ _ (Fin.le_def.2 (by show i.val ≤ 5; omega))
  · intro h
    obtain ⟨t, rfl⟩ := hs l
    by_cases ht : t.val < 6
    · exact ⟨⟨t.val, ht⟩, rfl⟩
    · exact absurd (hle ⟨6, hN⟩ t (Fin.le_def.2 (by show 6 ≤ t.val; omega))) (not_le.2 (lt_of_lt_of_le hstrict h))

/-- A row's loss in two forms. -/
theorem row_loss {N : ℕ} (hN : 6 < N) (x : Fin N → ℝ) (σ : Fin N → Fin N) (hs : Function.Surjective σ) (hi : Function.Injective σ)
    (hanti : ∀ i j, i < j → x (σ j) ≤ x (σ i)) (hstrict : x (σ ⟨6, hN⟩) < x (σ ⟨5, by omega⟩)) (l : Fin N) (M L : ℝ)
    [∀ j, Decidable (∃ i : Fin 6, σ (i.castLE (by omega)) = j)] :
    (M + L) * (if x (σ ⟨5, by omega⟩) ≤ x l then 13 else 15)
        - (2 * ∑ i : Fin 6, x (σ (i.castLE (by omega))) + if x (σ ⟨5, by omega⟩) ≤ x l then x l else 3 * x l)
      = ∑ j, -((if j.val = l.val then (3 : ℝ) else if ∃ i : Fin 6, σ (i.castLE (by omega)) = j then 2 else 0) * (x j - M - L)) := by
  have hw := weighted_sum (fun i : Fin 6 => σ (i.castLE hN.le)) (fun a b q => Fin.castLE_injective _ (hi q)) l (fun j => x j - M - L)
  rw [Finset.sum_neg_distrib]
  refine Eq.trans ?_ (congrArg Neg.neg hw).symm
  have e := listed_iff hN x σ hs hanti hstrict l
  simp only [Finset.sum_sub_distrib, Finset.sum_const, Finset.card_univ, Fintype.card_fin, nsmul_eq_mul]
  by_cases h : x (σ ⟨5, by omega⟩) ≤ x l
  · rw [if_pos h, if_pos h, if_pos (e.2 h)]
    push_cast
    ring
  · rw [if_neg h, if_neg h, if_neg (fun q => h (e.1 q))]
    push_cast
    ring

end Cert.Value

end
-- ==== Proof.Value.Pre.lean ====
/-
  What the precondition says of the arguments.
-/
module

public import proofs.«01_k».proof.Proof.Value.Sort
public import proofs.«01_k».proof.Proof.PreFacts
public import proofs.«01_k».proof.Proof.Gen.ReferenceIdeal.Read
public import Idealize.ShloMosaic.Lib.ReduceAll
public import Idealize.ShloMosaic.Lib.Pointwise

@[expose] public section

set_option maxRecDepth 16384

noncomputable section

namespace Cert.Value

open Idealize.ShloMosaic

/-- Both bits of a conjunction. -/
theorem andi_split {s : Shape} (a b : IVec s 1) (i : s.Idx) (h : andi a b i = 1#1) : a i = 1#1 ∧ b i = 1#1 := by
  have h' : a i &&& b i = 1#1 := h
  generalize a i = x at *
  generalize b i = y at *
  revert h'
  revert x y
  decide

/-- A finite value is a real. -/
theorem real_of_abs (a : EReal) (h : max a (-a) < ⊤) : ∃ p : ℝ, a = (p : EReal) := by
  induction a with
  | bot => simp at h
  | top => simp at h
  | coe p => exact ⟨p, rfl⟩

/-- Infinity's pattern. -/
theorem ofBits_inf : Ideal.ofBits .f32 0x7F800000#32 = (⊤ : EReal) := by
  simp [Ideal.ofBits, Ideal.ieee]

/-- A bit that compares. -/
theorem olt_lt (a b : EReal) (h : Ideal.cmp .olt a b = 1#1) : a < b := by
  unfold Ideal.cmp at h
  dsimp only at h
  by_contra hn
  simp [hn] at h

/-- A label in range. -/
theorem label_range (l : BitVec 32) (h0 : IntOp.cmpi .sge l 0#32 = 1#1) (h1 : IntOp.cmpi .slt l 16522#32 = 1#1) :
    ∃ ℓ : ℕ, ℓ < 16522 ∧ l = BitVec.ofNat 32 ℓ := by
  refine ⟨l.toNat, ?_, by simp⟩
  have e0 : (0#32).sle l = true := by
    by_contra hn
    rw [Bool.not_eq_true] at hn
    simp only [IntOp.cmpi, hn] at h0
    exact absurd h0 (by decide)
  have e1 : l.slt 16522#32 = true := by
    by_contra hn
    rw [Bool.not_eq_true] at hn
    simp only [IntOp.cmpi, hn] at h1
    exact absurd h1 (by decide)
  simp only [BitVec.sle, BitVec.slt, decide_eq_true_eq, BitVec.toInt_eq_toNat_cond] at e0 e1
  have := l.isLt
  simp at e0 e1
  split at e1 <;> split at e0 <;> omega

instance : Subsingleton (Cert.Pre_untied.S_).Idx := ⟨fun _ _ => funext fun a => a.elim0⟩

/-- What the precondition says. -/
theorem pre_facts (a0 : FVec Ideal ⟨2, ![128, 2048]⟩ .f32) (a1 : IVec ⟨1, ![128]⟩ 32) (a2 : IVec ⟨0, ![]⟩ 32) (a3 : FVec Ideal ⟨2, ![16522, 2048]⟩ .f32)
    (h : Cert.Pre_untied.fn (F := Ideal) a0 a1 a2 a3 = fun _ => 1#1) :
    (∀ i, ∃ p : ℝ, a0 i = (p : EReal)) ∧ (∀ i, ∃ p : ℝ, a3 i = (p : EReal)) ∧ (∀ i, ∃ ℓ : ℕ, ℓ < 16522 ∧ a1 i = BitVec.ofNat 32 ℓ) ∧
    (∀ (r : Fin 128) (i : ℕ) (hi : i + 1 < 7),
      (Cert.ReferenceIdeal.Read.val_main_v3 (F := Ideal) a0 a3 : FVec Ideal (SX 128 16522) .f32) (ix2 r (rowSort (Cert.ReferenceIdeal.Read.val_main_v3 (F := Ideal) a0 a3) r ⟨i + 1, by omega⟩)) <
      (Cert.ReferenceIdeal.Read.val_main_v3 (F := Ideal) a0 a3 : FVec Ideal (SX 128 16522) .f32) (ix2 r (rowSort (Cert.ReferenceIdeal.Read.val_main_v3 (F := Ideal) a0 a3) r ⟨i, by omega⟩))) := by
  have h0 := congrFun h (fun a => a.elim0)
  unfold Cert.Pre_untied.fn Cert.Pre_untied.fn_part1 at h0
  dsimp only at h0
  obtain ⟨h0, hD⟩ := andi_split _ _ _ h0
  obtain ⟨h0, hC⟩ := andi_split _ _ _ h0
  obtain ⟨h0, hB⟩ := andi_split _ _ _ h0
  obtain ⟨hS, hA⟩ := andi_split _ _ _ h0
  refine ⟨fun i => ?_, fun i => ?_, fun i => ?_, fun r i hi => ?_⟩
  · have := olt_lt _ _ (Host.reduce_andi_all _ _ _ _ _ hA i)
    refine real_of_abs _ ?_
    rw [← ofBits_inf]
    exact this
  · have := olt_lt _ _ (Host.reduce_andi_all _ _ _ _ _ hB i)
    refine real_of_abs _ ?_
    rw [← ofBits_inf]
    exact this
  · exact label_range _ (Host.reduce_andi_all _ _ _ _ _ hC i) (Host.reduce_andi_all _ _ _ _ _ hD i)
  · have := olt_lt _ _ (Host.reduce_andi_all _ _ _ _ _ hS (ix2 r ⟨i, by omega⟩))
    have eX : (Cert.ReferenceIdeal.Read.val_main_v3 (F := Ideal) a0 a3) = Host.divf (Host.dotGeneral Cert.Pre_untied.dot_S128x2048_S2048x16522_S128x16522_1_0_0_1_n_n none a0 (transpose Cert.Pre_untied.S2048x16522 [1, 0] a3 Cert.Pre_untied.Facts.transposes_S16522x2048_S2048x16522_1_0)) (broadcastInDim Cert.Pre_untied.S128x16522 ![] Cert.Pre_untied.Facts.bcast_S_S128x16522 (constant Cert.Pre_untied.S_ .f32 0x3D4CCCCD#32)) := rfl
    rw [← eX] at this
    have hg : ∃ X : FVec Ideal (SX 128 16522) .f32, X = Cert.ReferenceIdeal.Read.val_main_v3 (F := Ideal) a0 a3 := ⟨_, rfl⟩
    obtain ⟨X, hX⟩ := hg
    rw [← hX] at this ⊢
    have e1 := topK_values 7 (by omega) X Cert.Pre_untied.Facts.sliceFits_S128x16522_S128x7 r ⟨i + 1, hi⟩
    have e0 := topK_values 7 (by omega) X Cert.Pre_untied.Facts.sliceFits_S128x16522_S128x7 r ⟨i, by omega⟩
    refine lt_of_eq_of_lt e1.symm (lt_of_lt_of_eq ?_ e0)
    generalize (Host.topK (SX 128 7) 1 (FloatOps.cmpfTotal .gt) X Cert.Pre_untied.Facts.sliceFits_S128x16522_S128x7).1 = V at this ⊢
    refine lt_of_eq_of_lt (congrArg V (funext fun a => Fin.ext ?_)) (lt_of_lt_of_eq this (congrArg V (funext fun a => Fin.ext ?_)))
    · match a with
      | ⟨0, _⟩ => exact (Nat.zero_add _).symm
      | ⟨1, _⟩ => exact Nat.add_comm _ _
    · match a with
      | ⟨0, _⟩ => exact Nat.zero_add _
      | ⟨1, _⟩ => exact Nat.zero_add _

end Cert.Value

end
-- ==== Proof.Value.Loss.lean ====
/-
  The kernel's scalar is the reference's.
-/
module

public import proofs.«01_k».proof.Proof.Value.Kern
public import proofs.«01_k».proof.Proof.Value.Steps
public import proofs.«01_k».proof.Proof.Value.Ref
public import proofs.«01_k».proof.Proof.Value.Row
public import proofs.«01_k».proof.Proof.Value.Pre

@[expose] public section

set_option maxRecDepth 16384

noncomputable section

namespace Cert.Value

open Cert.KernelIdeal Cert.KernelIdeal.Gen Cert.KernelIdeal.Hand
open Idealize.ShloMosaic Idealize.ShloMosaic.TcCoe

theorem bits_13 : Ideal.ofBits .f32 1095761920#32 = ((13 : ℝ) : EReal) := by
  simp [Ideal.ofBits, Ideal.ieee]
  norm_cast
  norm_num
theorem bits_15 : Ideal.ofBits .f32 1097859072#32 = ((15 : ℝ) : EReal) := by
  simp [Ideal.ofBits, Ideal.ieee]
  norm_cast
  norm_num

/-- The output payload. -/
theorem pay1_apply (m s v : Vec Ideal S128x1 .f32) (k : Vec Ideal S128x8 .f32) :
    k0_pay1 m s k v = Ideal.div (∑ r : Fin 128, ((m (ix2 r 0) + Ideal.log (s (ix2 r 0))) * (if k (ix2 r 5) ≤ v (ix2 r 0) then ((13 : ℝ) : EReal) else ((15 : ℝ) : EReal))
      - (((2 : ℝ) : EReal) * ∑ i : Fin 6, k (ix2 r (i.castLE (by omega))) + if k (ix2 r 5) ≤ v (ix2 r 0) then v (ix2 r 0) else ((3 : ℝ) : EReal) * v (ix2 r 0))))
      (Ideal.ofBits .f32 0x43000000#32) := by
  rw [← bits_13, ← bits_15, ← bits_two, ← bits_three]
  have h : k0_pay1 m s k v = Ideal.div (∑ r : Fin 128, ∑ _ : Fin 1, ((m (ix2 r 0) + Ideal.log (s (ix2 r 0))) * (if k (ix2 r 5) ≤ v (ix2 r 0) then Ideal.ofBits .f32 1095761920#32 else Ideal.ofBits .f32 1097859072#32)
      - (Ideal.ofBits .f32 1073741824#32 * ∑ i : Fin 6, k (ix2 r (i.castLE (by omega))) + if k (ix2 r 5) ≤ v (ix2 r 0) then v (ix2 r 0) else Ideal.ofBits .f32 1077936128#32 * v (ix2 r 0))))
      (Ideal.ofBits .f32 1124073472#32) := by
    pointwise [k0_pay1]
    rfl
  rw [h]
  simp only [Finset.univ_unique, Finset.sum_singleton]

/-- A row of it, in reals. -/
theorem row_real (M L v : ℝ) (k : Fin 6 → ℝ) (m s w : EReal) (kk : Fin 8 → EReal) (hm : m = (M : EReal)) (hs : Ideal.log s = (L : EReal)) (hv : w = (v : EReal))
    (hk : ∀ i : Fin 6, kk (i.castLE (by omega)) = (k i : EReal)) :
    (m + Ideal.log s) * (if kk 5 ≤ w then ((13 : ℝ) : EReal) else ((15 : ℝ) : EReal))
      - (((2 : ℝ) : EReal) * ∑ i : Fin 6, kk (i.castLE (by omega)) + if kk 5 ≤ w then w else ((3 : ℝ) : EReal) * w)
    = (((M + L) * (if k 5 ≤ v then 13 else 15) - (2 * ∑ i, k i + if k 5 ≤ v then v else 3 * v) : ℝ) : EReal) := by
  have h5 : kk 5 = (k 5 : EReal) := hk 5
  rw [hm, hs, hv, h5, Finset.sum_congr rfl fun i _ => hk i, ← coe_sum]
  by_cases h : k 5 ≤ v
  · rw [if_pos (EReal.coe_le_coe_iff.2 h), if_pos (EReal.coe_le_coe_iff.2 h), if_pos h, if_pos h]
    push_cast
    rfl
  · rw [if_neg (fun q => h (EReal.coe_le_coe_iff.1 q)), if_neg (fun q => h (EReal.coe_le_coe_iff.1 q)), if_neg h, if_neg h]
    push_cast
    rfl

variable (m : (ℓ : Loc nD τ sig) → Buf (Elt Ideal) ℓ) (c : Dev nD)

/-- The kernel's scalar. -/
theorem loss_eq (h : Cert.Pre_untied.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1)
    (d : Vec Ideal S256x2048 .f32) :
    (fun _ => outOf (sAt m c d 8) : Vec Ideal S_ .f32) = Cert.ReferenceIdeal.Read.val_main_v44 (F := Ideal) (m ((c.tc : Thread nD τ).loc main_arg0)) (m ((c.tc : Thread nD τ).loc main_arg1)) (m ((c.tc : Thread nD τ).loc main_arg3)) := by
  classical
  have ha : ∀ r k, x0c m c (ix2 r k) = (m ((c.tc : Thread nD τ).loc main_arg0) : Vec Ideal S128x2048 .f32) (ix2 r k) := x0c_apply m c
  have hb : ∀ r, labc m c (ix2 r 0) = (m ((c.tc : Thread nD τ).loc main_arg1) : Vec Ideal S128 .i32) (ix1 r) := labc_apply m c
  have he : ∀ i, emAt c (emW m c) i = (m ((c.tc : Thread nD τ).loc main_arg3) : Vec Ideal S16522x2048 .f32) i := emW_apply m c
  have ht : ∀ (i : Fin 256) (hi : 16384 + i.val < 16522) (k : Fin 2048), tailOf m c d (ix2 i k) = (m ((c.tc : Thread nD τ).loc main_arg3) : Vec Ideal S16522x2048 .f32) (ix2 ⟨16384 + i.val, hi⟩ k) := tailOf_apply m c d
  obtain ⟨hp, hq, hl, hst⟩ := pre_facts _ _ _ _ h
  generalize (m ((c.tc : Thread nD τ).loc main_arg0) : Vec Ideal S128x2048 .f32) = a0 at *
  generalize (m ((c.tc : Thread nD τ).loc main_arg1) : Vec Ideal S128 .i32) = a1 at *
  generalize (m ((c.tc : Thread nD τ).loc main_arg3) : Vec Ideal S16522x2048 .f32) = a3 at *
  choose p hp using hp
  choose q hq using hq
  choose ℓ hℓ hl using hl
  obtain ⟨x, hxd⟩ : ∃ x : Fin 128 → Fin 16522 → ℝ, ∀ r j, x r j = (∑ k, p (ix2 r k) * q (ix2 j k)) * (268435456 / 13421773) := ⟨_, fun _ _ => rfl⟩
  have hx : ∀ r j, Cert.ReferenceIdeal.Read.val_main_v3 (F := Ideal) a0 a3 (ix2 r j) = (x r j : EReal) := by
    intro r j
    rw [hxd]
    exact v3_real a0 a3 (fun r k => p (ix2 r k)) (fun j k => q (ix2 j k)) (fun r k => hp _) (fun j k => hq _) r j
  have hdot : ∀ (r : Fin 128) (j : Fin 16522) (T : Fin 2048 → EReal), (∀ k, T k = a3 (ix2 j k)) → ∑ k, xsOf (x0c m c) (ix2 r k) * T k = (x r j : EReal) := by
    intro r j T hT
    rw [hxd, Finset.sum_mul, coe_sum]
    refine Finset.sum_congr rfl fun k _ => ?_
    rw [xsOf_apply, ha, hp, hT, hq, ← EReal.coe_mul, ← EReal.coe_mul]
    congr 1
    ring
  have hR : ∀ r, RowInv (x r) (ℓ (ix1 r)) Finset.univ (sAt m c d 8) r := fun r =>
    row_all (x r) (hℓ (ix1 r)) c (emW m c) (xsOf (x0c m c)) (tailOf m c d) (labc m c) r
      (fun i hi => hdot r ⟨16384 + i.val, hi⟩ (fun k => tailOf m c d (ix2 i k)) (fun k => ht i hi k))
      (fun j => hdot r j (fun k => emAt c (emW m c) (ix2 j k)) (fun k => he _))
      ((hb r).trans (hl (ix1 r)))
  rw [v44_real]
  funext _
  show k0_pay1 (sAt m c d 8).m (sAt m c d 8).s (sAt m c d 8).k (sAt m c d 8).v = _
  rw [pay1_apply]
  refine congrArg (fun a : EReal => Ideal.div a (Ideal.ofBits .f32 0x43000000#32)) (Finset.sum_congr rfl fun r _ => ?_)
  obtain ⟨M, hM⟩ := sSup_img (x r) (S := Finset.univ) ⟨0, Finset.mem_univ _⟩
  have I := hR r
  generalize hσ : sAt m c d 8 = σ at I
  have h1 := I.hm
  have h2 := I.hs
  have h3 := I.hv
  have h4 := I.hk
  rw [hM] at h1 h2
  have hlog : Ideal.log (σ.s (ix2 r 0)) = ((Real.log (∑ k, Real.exp (x r k - M)) : ℝ) : EReal) := by
    rw [h2, Finset.sum_congr rfl fun j _ => exp_coe_sub (x r j) M, ← coe_sum]
    exact log_coe _ (Finset.sum_pos (fun k _ => Real.exp_pos _) ⟨0, Finset.mem_univ _⟩)
  have hv : σ.v (ix2 r 0) = (x r ⟨ℓ (ix1 r), hℓ _⟩ : EReal) := by
    rw [h3, Finset.sum_eq_single (⟨ℓ (ix1 r), hℓ _⟩ : Fin 16522)]
    · rw [if_pos rfl]
    · intro b _ hb
      rw [if_neg fun e => hb (Fin.ext e)]
    · intro hn
      exact absurd (Finset.mem_univ _) hn
  obtain ⟨ρ, hρ⟩ : ∃ ρ, ρ = rowSort (Cert.ReferenceIdeal.Read.val_main_v3 (F := Ideal) a0 a3) r := ⟨_, rfl⟩
  have hs : Function.Surjective ρ := hρ ▸ rowSort_surjective _ r
  have hi : Function.Injective ρ := hρ ▸ rowSort_injective _ r
  have hanti : ∀ i j, i < j → x r (ρ j) ≤ x r (ρ i) := by
    intro i j hij
    have := rowSort_anti (Cert.ReferenceIdeal.Read.val_main_v3 (F := Ideal) a0 a3) r i j hij
    rw [← hρ] at this
    exact EReal.coe_le_coe_iff.1 ((hx r (ρ j)).symm.trans_le (this.trans_eq (hx r (ρ i))))
  have hstrict : ∀ (i : ℕ) (hi : i + 1 < 7), x r (ρ ⟨i + 1, by omega⟩) < x r (ρ ⟨i, by omega⟩) := by
    intro i hi
    have := hst r i hi
    rw [← hρ] at this
    exact EReal.coe_lt_coe_iff.1 ((hx r _).symm.trans_lt (this.trans_eq (hx r _)))
  have hk : ∀ i : Fin 6, σ.k (ix2 r (i.castLE (by omega))) = (x r (ρ (i.castLE (by omega))) : EReal) := by
    intro i
    have e := h4 i.val (by omega)
    have himg : img (x r) Finset.univ = Set.range fun j => (x r j : EReal) := by
      unfold img
      rw [Finset.coe_univ, Set.image_univ]
    rw [himg] at e
    refine e.trans ?_
    exact top_sorted (fun j => (x r j : EReal)) ρ hs (fun a b hab => EReal.coe_le_coe_iff.2 (hanti a b hab)) (k := 6) (by omega)
      (fun a ha => EReal.coe_lt_coe_iff.2 (hstrict a (by omega))) i.val (by omega)
  rw [v42_real a0 a1 a3 x hx (fun r => ℓ (ix1 r)) (fun r => hℓ _) (fun r => hl _) r M hM]
  rw [← hρ]
  refine (row_real M (Real.log (∑ k, Real.exp (x r k - M))) (x r ⟨ℓ (ix1 r), hℓ _⟩) (fun i => x r (ρ (i.castLE (by omega)))) _ _ _ (fun j => σ.k (ix2 r j)) h1 hlog hv hk).trans ?_
  exact congrArg _ (row_loss (by omega) (x r) ρ hs hi hanti (hstrict 5 (by omega)) ⟨ℓ (ix1 r), hℓ _⟩ M (Real.log (∑ k, Real.exp (x r k - M))))

end Cert.Value

end
-- ==== Proof.lean ====
/-
  The claims: the kernel's and the reference's frames, the idealization's named constants, and the equality of the
  results.
-/
module

public import proofs.«01_k».proof.Defs
public import proofs.«01_k».proof.Proof.PreFacts
public import proofs.«01_k».proof.Proof.Ideal.Launch
public import proofs.«01_k».proof.Proof.Bits.Launch
public import proofs.«01_k».proof.Proof.Value.Loss
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel ends with its arguments unchanged and every semaphore at zero. -/
theorem frame_p : Cert.quiescent_Kernel := fun m ρ _ =>
  (θ_run Cert.Kernel.defs _ _).mono (fun _ h => ⟨fun c => ⟨(h.1 c).1, (h.1 c).2.1, (h.1 c).2.2.1, (h.1 c).2.2.2.1⟩, h.2⟩)
    (Cert.Kernel.Hand.run_main (F := Bits) m ρ)

/-- The same, of the kernel under the precondition. -/
theorem frame_p_pre : Cert.quiescent_Kernel_pre_untied := fun m ρ _ =>
  frame_p m ρ trivial

/-- The idealized kernel ends with its arguments unchanged and every semaphore at zero. -/
theorem frame_pi : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Hand.run_main (F := Ideal) m ρ)

/-- The reference ends with its arguments unchanged; it has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants: the scale, the reciprocal of the float `0.05`, and the mask, `-∞`. -/
theorem preserves : Cert.preserves_Kernel_KernelIdeal :=
  ⟨IdealRules.named_const.statement Cert.KernelIdeal.κ "scale" .f32 0x41A00000#32 _ rfl,
    IdealRules.named_const.statement Cert.KernelIdeal.κ "mask" .f32 0xF149F2CA#32 ⊥ rfl⟩

/-- The idealized kernel's scalar is the idealized reference's. -/
theorem algebraic : Cert.algebraic_KernelIdeal_ReferenceIdeal := by
  intro m g m' g' hpre hm
  refine ⟨fun c => Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m g)
    obtain ⟨h0, h1, h2, h3, d, hd⟩ := h.1 c
    exact ⟨hd.trans (Cert.Value.loss_eq m c (hpre c) d), h0, h1, h2, h3⟩
  · refine (θ_run Cert.ReferenceIdeal.defs _ _).mono (fun r h c => ?_) (Cert.ReferenceIdeal.Value.run (F := Ideal) m' g')
    refine ⟨(h c).1.trans ((Cert.ReferenceIdeal.Read.val_main_v44_eq (F := Ideal) m' c).trans ?_), (h c).2⟩
    obtain ⟨e0, e1, _, e3⟩ := hm c
    rw [e0, e1, e3]

/-- Every claim, with the side conditions of the four programs. -/
theorem claim : Cert.Claim :=
  ⟨Cert.Kernel.Gen.facts, Cert.KernelIdeal.Gen.facts, Cert.ReferenceIdeal.Gen.facts, Cert.Pre_untied.Hand.facts,
    frame_p, frame_p_pre, frame_pi, frame_ri, preserves, algebraic⟩

end Cert.Proof

end
